-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_generic [hPre_generic : Cert.Pre_generic.Facts] (m : (ℓ : Loc Cert.KernelIdeal.nD Cert.KernelIdeal.τ Cert.KernelIdeal.sig) → Buf (Elt Ideal) ℓ) : Prop :=
  ∀ c : Dev Cert.KernelIdeal.nD,
    (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_generic [hPre_generic : Cert.Pre_generic.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_generic [hKernelIdeal : Cert.KernelIdeal.Facts] [hPre_generic : Cert.Pre_generic.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_generic m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_generic [hReferenceIdeal : Cert.ReferenceIdeal.Facts] [hPre_generic : Cert.Pre_generic.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_generic m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_generic [hKernelIdeal : Cert.KernelIdeal.Facts] [hReferenceIdeal : Cert.ReferenceIdeal.Facts] [hPre_generic : Cert.Pre_generic.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_generic m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_generic : Cert.Pre_generic.Facts),
    quiescent_Kernel (hKernel := hKernel)
    ∧ quiescent_KernelIdeal (hKernelIdeal := hKernelIdeal)
    ∧ quiescent_KernelIdeal_pre_generic (hKernelIdeal := hKernelIdeal) (hPre_generic := hPre_generic)
    ∧ quiescent_ReferenceIdeal (hReferenceIdeal := hReferenceIdeal)
    ∧ quiescent_ReferenceIdeal_pre_generic (hReferenceIdeal := hReferenceIdeal) (hPre_generic := hPre_generic)
    ∧ preserves_Kernel_KernelIdeal
    ∧ algebraic_KernelIdeal_ReferenceIdeal_pre_generic (hKernelIdeal := hKernelIdeal) (hReferenceIdeal := hReferenceIdeal) (hPre_generic := hPre_generic)
-- ==== Pre_generic.lean ====
abbrev S32768x3 : Shape := ⟨2, ![32768, 3]⟩
abbrev S4 : Shape := ⟨1, ![4]⟩
abbrev S8192x3 : Shape := ⟨2, ![8192, 3]⟩
abbrev S32768x128 : Shape := ⟨2, ![32768, 128]⟩
abbrev S8192x256 : Shape := ⟨2, ![8192, 256]⟩
abbrev S256x384 : Shape := ⟨2, ![256, 384]⟩
abbrev S256 : Shape := ⟨1, ![256]⟩
abbrev S256x256 : Shape := ⟨2, ![256, 256]⟩
abbrev S4x8192x3 : Shape := ⟨3, ![4, 8192, 3]⟩
abbrev S4x2048x3 : Shape := ⟨3, ![4, 2048, 3]⟩
abbrev S4x8192x1x3 : Shape := ⟨4, ![4, 8192, 1, 3]⟩
abbrev S4x1x2048x3 : Shape := ⟨4, ![4, 1, 2048, 3]⟩
abbrev S4x8192x2048x3 : Shape := ⟨4, ![4, 8192, 2048, 3]⟩
abbrev S_ : Shape := ⟨0, ![]⟩
abbrev S4x8192x2048 : Shape := ⟨3, ![4, 8192, 2048]⟩
abbrev S4x8192x4 : Shape := ⟨3, ![4, 8192, 4]⟩

class Facts : Prop where
  shapeCasts_S32768x3_S4x8192x3 : S32768x3.ShapeCasts S4x8192x3
  shapeCasts_S8192x3_S4x2048x3 : S8192x3.ShapeCasts S4x2048x3
  bcast_S4x8192x3_S4x8192x1x3_0_1_3 : S4x8192x3.BroadcastsInDim S4x8192x1x3 (![0, 1, 3] : Fin 3 → Fin S4x8192x1x3.rank)
  bcast_S4x2048x3_S4x1x2048x3_0_2_3 : S4x2048x3.BroadcastsInDim S4x1x2048x3 (![0, 2, 3] : Fin 3 → Fin S4x1x2048x3.rank)
  bcast_S4x8192x1x3_S4x8192x2048x3_0_1_2_3 : S4x8192x1x3.BroadcastsInDim S4x8192x2048x3 (![0, 1, 2, 3] : Fin 4 → Fin S4x8192x2048x3.rank)
  bcast_S4x1x2048x3_S4x8192x2048x3_0_1_2_3 : S4x1x2048x3.BroadcastsInDim S4x8192x2048x3 (![0, 1, 2, 3] : Fin 4 → Fin S4x8192x2048x3.rank)
  reducesTo_S4x8192x2048x3_S4x8192x2048_d3 : S4x8192x2048x3.ReducesTo [3] S4x8192x2048
  h_S_ : 0 < S_.numel
  sliceFits_S4x8192x2048_S4x8192x4 : S4x8192x2048.Slices (fun _ => 0) S4x8192x4
  slices_S4x8192x4_S4x8192x3_0_0_0 : S4x8192x4.Slices ![0, 0, 0] S4x8192x3
  slices_S4x8192x4_S4x8192x3_0_0_1 : S4x8192x4.Slices ![0, 0, 1] S4x8192x3
  reducesTo_S4x8192x3_S_d0_1_2 : S4x8192x3.ReducesTo [0, 1, 2] S_
  bcast_S_S32768x128 : S_.BroadcastsInDim S32768x128 (![] : Fin 0 → Fin S32768x128.rank)
  reducesTo_S32768x128_S_d0_1 : S32768x128.ReducesTo [0, 1] S_
  bcast_S_S8192x256 : S_.BroadcastsInDim S8192x256 (![] : Fin 0 → Fin S8192x256.rank)
  reducesTo_S8192x256_S_d0_1 : S8192x256.ReducesTo [0, 1] S_
  bcast_S_S256x384 : S_.BroadcastsInDim S256x384 (![] : Fin 0 → Fin S256x384.rank)
  reducesTo_S256x384_S_d0_1 : S256x384.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg9 : FVec F S256x256 .f32) (main_v13 : IVec S_ 1) (main_v32 : IVec S_ 1) (main_v33 : FVec F S256 .f32) (main_v34 : FVec F S256 .f32) : IVec S_ 1 :=
  let main_v35 : IVec S256 1 := cmpf .olt main_v33 main_v34
  let main_c_9 : IVec S_ 1 := constantI S_ 1 1#1
  let main_v36 : IVec S_ 1 := (fun x v => Host.reduce IntOp.andi x v reducesTo_S256_S_d0 h_S_) main_v35 main_c_9
  let main_v37 : IVec S_ 1 := andi main_v32 main_v36
  let main_v38 : FVec F S256x256 .f32 := Host.absf main_arg9
  let main_cst_10 : FVec F S_ .f32 := constant S_ .f32 0x7F800000#32
  let main_v39 : FVec F S256x256 .f32 := broadcastInDim S256x256 ![] bcast_S_S256x256 main_cst_10
  let main_v40 : IVec S256x256 1 := cmpf .olt main_v38 main_v39
  let main_c_11 : IVec S_ 1 := constantI S_ 1 1#1
  let main_v41 : IVec S_ 1 := (fun x v => Host.reduce IntOp.andi x v reducesTo_S256x256_S_d0_1 h_S_) main_v40 main_c_11
  let main_v42 : IVec S_ 1 := andi main_v37 main_v41
  let main_v43 : IVec S_ 1 := andi main_v13 main_v42
  main_v43

def fn_part1 {F : FTy → Type} [FloatOps F] (main_arg5 : FVec F S8192x256 .f32) (main_arg6 : FVec F S256x384 .f32) (main_arg7 : FVec F S256 .f32) (main_arg8 : FVec F S256 .f32) (main_arg9 : FVec F S256x256 .f32) (main_v13 : IVec S_ 1) (main_v17 : IVec S_ 1) : IVec S_ 1 :=
  let main_v18 : FVec F S8192x256 .f32 := Host.absf main_arg5
  let main_cst_2 : FVec F S_ .f32 := constant S_ .f32 0x7F800000#32
  let main_v19 : FVec F S8192x256 .f32 := broadcastInDim S8192x256 ![] bcast_S_S8192x256 main_cst_2
  let main_v20 : IVec S8192x256 1 := cmpf .olt main_v18 main_v19
  let main_c_3 : IVec S_ 1 := constantI S_ 1 1#1
  let main_v21 : IVec S_ 1 := (fun x v => Host.reduce IntOp.andi x v reducesTo_S8192x256_S_d0_1 h_S_) main_v20 main_c_3
  let main_v22 : IVec S_ 1 := andi main_v17 main_v21
  let main_v23 : FVec F S256x384 .f32 := Host.absf main_arg6
  let main_cst_4 : FVec F S_ .f32 := constant S_ .f32 0x7F800000#32
  let main_v24 : FVec F S256x384 .f32 := broadcastInDim S256x384 ![] bcast_S_S256x384 main_cst_4
  let main_v25 : IVec S256x384 1 := cmpf .olt main_v23 main_v24
  let main_c_5 : IVec S_ 1 := constantI S_ 1 1#1
  let main_v26 : IVec S_ 1 := (fun x v => Host.reduce IntOp.andi x v reducesTo_S256x384_S_d0_1 h_S_) main_v25 main_c_5
  let main_v27 : IVec S_ 1 := andi main_v22 main_v26
  let main_v28 : FVec F S256 .f32 := Host.absf main_arg7
  let main_cst_6 : FVec F S_ .f32 := constant S_ .f32 0x7F800000#32
  let main_v29 : FVec F S256 .f32 := broadcastInDim S256 ![] bcast_S_S256 main_cst_6
  let main_v30 : IVec S256 1 := cmpf .olt main_v28 main_v29
  let main_c_7 : IVec S_ 1 := constantI S_ 1 1#1
  let main_v31 : IVec S_ 1 := (fun x v => Host.reduce IntOp.andi x v reducesTo_S256_S_d0 h_S_) main_v30 main_c_7
  let main_v32 : IVec S_ 1 := andi main_v27 main_v31
  let main_v33 : FVec F S256 .f32 := Host.absf main_arg8
  let main_cst_8 : FVec F S_ .f32 := constant S_ .f32 0x7F800000#32
  let main_v34 : FVec F S256 .f32 := broadcastInDim S256 ![] bcast_S_S256 main_cst_8
  fn_part2 (F := F) main_arg9 main_v13 main_v32 main_v33 main_v34

def fn {F : FTy → Type} [FloatOps F] (main_arg0 : FVec F S32768x3 .f32) (main_arg1 : IVec S4 32) (main_arg2 : FVec F S8192x3 .f32) (main_arg3 : IVec S4 32) (main_arg4 : FVec F S32768x128 .f32) (main_arg5 : FVec F S8192x256 .f32) (main_arg6 : FVec F S256x384 .f32) (main_arg7 : FVec F S256 .f32) (main_arg8 : FVec F S256 .f32) (main_arg9 : FVec F S256x256 .f32) (main_arg10 : FVec F S256 .f32) (main_arg11 : FVec F S256 .f32) : IVec S_ 1 :=
  let main_v0 : FVec F S4x8192x3 .f32 := shapeCast S4x8192x3 main_arg0 shapeCasts_S32768x3_S4x8192x3
  let main_v1 : FVec F S4x2048x3 .f32 := shapeCast S4x2048x3 main_arg2 shapeCasts_S8192x3_S4x2048x3
  let main_v2 : FVec F S4x8192x1x3 .f32 := broadcastInDim S4x8192x1x3 ![0, 1, 3] bcast_S4x8192x3_S4x8192x1x3_0_1_3 main_v0
  let main_v3 : FVec F S4x1x2048x3 .f32 := broadcastInDim S4x1x2048x3 ![0, 2, 3] bcast_S4x2048x3_S4x1x2048x3_0_2_3 main_v1
  let main_v4 : FVec F S4x8192x2048x3 .f32 := broadcastInDim S4x8192x2048x3 ![0, 1, 2, 3] bcast_S4x8192x1x3_S4x8192x2048x3_0_1_2_3 main_v2
  let main_v5 : FVec F S4x8192x2048x3 .f32 := broadcastInDim S4x8192x2048x3 ![0, 1, 2, 3] bcast_S4x1x2048x3_S4x8192x2048x3_0_1_2_3 main_v3
  let main_v6 : FVec F S4x8192x2048x3 .f32 := subf main_v4 main_v5
  let main_v7 : FVec F S4x8192x2048x3 .f32 := mulf main_v6 main_v6
  let main_cst : FVec F S_ .f32 := constant S_ .f32 0x00000000#32
  let main_v8 : FVec F S4x8192x2048 .f32 := (fun x v => Host.reduceAdd x v reducesTo_S4x8192x2048x3_S4x8192x2048_d3 h_S_) main_v7 main_cst
  let main_v9 : FVec F S4x8192x2048 .f32 := Host.negf main_v8
  let main_values : FVec F S4x8192x4 .f32 := (fun x => (Host.topK S4x8192x4 2 (FloatOps.cmpfTotal .gt) x sliceFits_S4x8192x2048_S4x8192x4).1) main_v9
  let main_indices : IVec S4x8192x4 32 := (fun x => (Host.topK S4x8192x4 2 (FloatOps.cmpfTotal .gt) x sliceFits_S4x8192x2048_S4x8192x4).2) main_v9
  let main_v10 : FVec F S4x8192x3 .f32 := (extractStridedSlice S4x8192x3 ![0, 0, 0] · slices_S4x8192x4_S4x8192x3_0_0_0) main_values
  let main_v11 : FVec F S4x8192x3 .f32 := (extractStridedSlice S4x8192x3 ![0, 0, 1] · slices_S4x8192x4_S4x8192x3_0_0_1) main_values
  let main_v12 : IVec S4x8192x3 1 := cmpf .ogt main_v10 main_v11
  let main_c : IVec S_ 1 := constantI S_ 1 1#1
  let main_v13 : IVec S_ 1 := (fun x v => Host.reduce IntOp.andi x v reducesTo_S4x8192x3_S_d0_1_2 h_S_) main_v12 main_c
  let main_v14 : FVec F S32768x128 .f32 := Host.absf main_arg4
  let main_cst_0 : FVec F S_ .f32 := constant S_ .f32 0x7F800000#32
  let main_v15 : FVec F S32768x128 .f32 := broadcastInDim S32768x128 ![] bcast_S_S32768x128 main_cst_0
  let main_v16 : IVec S32768x128 1 := cmpf .olt main_v14 main_v15
  let main_c_1 : IVec S_ 1 := constantI S_ 1 1#1
  let main_v17 : IVec S_ 1 := (fun x v => Host.reduce IntOp.andi x v reducesTo_S32768x128_S_d0_1 h_S_) main_v16 main_c_1
  fn_part1 (F := F) main_arg5 main_arg6 main_arg7 main_arg8 main_arg9 main_v13 main_v17
-- ==== Kernel.lean ====
abbrev S32768x3 : Shape := ⟨2, ![32768, 3]⟩
abbrev S4 : Shape := ⟨1, ![4]⟩
abbrev S8192x3 : Shape := ⟨2, ![8192, 3]⟩
abbrev S32768x128 : Shape := ⟨2, ![32768, 128]⟩
abbrev S8192x256 : Shape := ⟨2, ![8192, 256]⟩
abbrev S256x384 : Shape := ⟨2, ![256, 384]⟩
abbrev S256 : Shape := ⟨1, ![256]⟩
abbrev S256x256 : Shape := ⟨2, ![256, 256]⟩
abbrev S4x8192x3 : Shape := ⟨3, ![4, 8192, 3]⟩
abbrev S4x2048x3 : Shape := ⟨3, ![4, 2048, 3]⟩
abbrev S4x3x2048 : Shape := ⟨3, ![4, 3, 2048]⟩
abbrev S_ : Shape := ⟨0, ![]⟩
abbrev S4x8x2048 : Shape := ⟨3, ![4, 8, 2048]⟩
abbrev S4x2048x256 : Shape := ⟨3, ![4, 2048, 256]⟩
abbrev S4x8192x128 : Shape := ⟨3, ![4, 8192, 128]⟩
abbrev S384x256 : Shape := ⟨2, ![384, 256]⟩
abbrev S128x256 : Shape := ⟨2, ![128, 256]⟩
abbrev S1x256 : Shape := ⟨2, ![1, 256]⟩
abbrev S4x8192x256 : Shape := ⟨3, ![4, 8192, 256]⟩
abbrev S8x256 : Shape := ⟨2, ![8, 256]⟩
abbrev S1x2048x3 : Shape := ⟨3, ![1, 2048, 3]⟩
abbrev S1x8x2048 : Shape := ⟨3, ![1, 8, 2048]⟩
abbrev S1x2048x256 : Shape := ⟨3, ![1, 2048, 256]⟩
abbrev S1x2048x128 : Shape := ⟨3, ![1, 2048, 128]⟩
abbrev S2048x3 : Shape := ⟨2, ![2048, 3]⟩
abbrev S8x2048 : Shape := ⟨2, ![8, 2048]⟩
abbrev S2048x1 : Shape := ⟨2, ![2048, 1]⟩
abbrev S1x2048 : Shape := ⟨2, ![1, 2048]⟩
abbrev S2048x2048 : Shape := ⟨2, ![2048, 2048]⟩
abbrev S2048 : Shape := ⟨1, ![2048]⟩
abbrev S2048x256 : Shape := ⟨2, ![2048, 256]⟩
abbrev S2048x128 : Shape := ⟨2, ![2048, 128]⟩
abbrev S32768x256 : Shape := ⟨2, ![32768, 256]⟩

abbrev nBuf : Space → Nat
  | .hbm => 36
  | .vmem => 33
  | .smem => 0
  | _ => 0

abbrev bufTy : (tb : Table) → Fin (tcTables nBuf tb) → BufTy
  | .hbm, ⟨0, _⟩ => ⟨S32768x3, .f32⟩
  | .hbm, ⟨1, _⟩ => ⟨S4, .i32⟩
  | .hbm, ⟨2, _⟩ => ⟨S8192x3, .f32⟩
  | .hbm, ⟨3, _⟩ => ⟨S4, .i32⟩
  | .hbm, ⟨4, _⟩ => ⟨S32768x128, .f32⟩
  | .hbm, ⟨5, _⟩ => ⟨S8192x256, .f32⟩
  | .hbm, ⟨6, _⟩ => ⟨S256x384, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S4x8192x3, .f32⟩
  | .hbm, ⟨13, _⟩ => ⟨S4x2048x3, .f32⟩
  | .hbm, ⟨14, _⟩ => ⟨S4x3x2048, .f32⟩
  | .hbm, ⟨15, _⟩ => ⟨S_, .i32⟩
  | .hbm, ⟨16, _⟩ => ⟨S_, .f32⟩
  | .hbm, ⟨17, _⟩ => ⟨S4x8x2048, .f32⟩
  | .hbm, ⟨18, _⟩ => ⟨S4x2048x256, .f32⟩
  | .hbm, ⟨19, _⟩ => ⟨S4x8192x128, .f32⟩
  | .hbm, ⟨20, _⟩ => ⟨S384x256, .f32⟩
  | .hbm, ⟨21, _⟩ => ⟨S256x256, .f32⟩
  | .hbm, ⟨22, _⟩ => ⟨S128x256, .f32⟩
  | .hbm, ⟨23, _⟩ => ⟨S256x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S4x8192x256, .f32⟩
  | .hbm, ⟨29, _⟩ => ⟨S8x256, .f32⟩
  | .hbm, ⟨30, _⟩ => ⟨S8x256, .f32⟩
  | .hbm, ⟨31, _⟩ => ⟨S32768x256, .f32⟩
  | .hbm, ⟨32, _⟩ => ⟨S32768x256, .f32⟩
  | .hbm, ⟨33, _⟩ => ⟨S8x256, .f32⟩
  | .hbm, ⟨34, _⟩ => ⟨S8x256, .f32⟩
  | .hbm, ⟨35, _⟩ => ⟨S32768x256, .f32⟩
  | .local _ .vmem, ⟨0, _⟩ => ⟨S1x2048x3, .f32⟩
  | .local _ .vmem, ⟨1, _⟩ => ⟨S1x2048x3, .f32⟩
  | .local _ .vmem, ⟨2, _⟩ => ⟨S1x8x2048, .f32⟩
  | .local _ .vmem, ⟨3, _⟩ => ⟨S1x8x2048, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x128, .f32⟩
  | .local _ .vmem, ⟨7, _⟩ => ⟨S1x2048x128, .f32⟩
  | .local _ .vmem, ⟨8, _⟩ => ⟨S256x256, .f32⟩
  | .local _ .vmem, ⟨9, _⟩ => ⟨S128x256, .f32⟩
  | .local _ .vmem, ⟨10, _⟩ => ⟨S1x2048x256, .f32⟩
  | .local _ .vmem, ⟨11, _⟩ => ⟨S1x2048x256, .f32⟩
  | .local _ .vmem, ⟨12, _⟩ => ⟨S8x256, .f32⟩
  | .local _ .vmem, ⟨13, _⟩ => ⟨S8x256, .f32⟩
  | .local _ .vmem, ⟨14, _⟩ => ⟨S8192x256, .f32⟩
  | .local _ .vmem, ⟨15, _⟩ => ⟨S8192x256, .f32⟩
  | .local _ .vmem, ⟨16, _⟩ => ⟨S8x256, .f32⟩
  | .local _ .vmem, ⟨17, _⟩ => ⟨S8x256, .f32⟩
  | .local _ .vmem, ⟨18, _⟩ => ⟨S1x256, .f32⟩
  | .local _ .vmem, ⟨19, _⟩ => ⟨S1x256, .f32⟩
  | .local _ .vmem, ⟨20, _⟩ => ⟨S256x256, .f32⟩
  | .local _ .vmem, ⟨21, _⟩ => ⟨S8192x256, .f32⟩
  | .local _ .vmem, ⟨22, _⟩ => ⟨S8192x256, .f32⟩
  | .local _ .vmem, ⟨23, _⟩ => ⟨S8x256, .f32⟩
  | .local _ .vmem, ⟨24, _⟩ => ⟨S8x256, .f32⟩
  | .local _ .vmem, ⟨25, _⟩ => ⟨S8192x256, .f32⟩
  | .local _ .vmem, ⟨26, _⟩ => ⟨S8192x256, .f32⟩
  | .local _ .vmem, ⟨27, _⟩ => ⟨S8x256, .f32⟩
  | .local _ .vmem, ⟨28, _⟩ => ⟨S8x256, .f32⟩
  | .local _ .vmem, ⟨29, _⟩ => ⟨S1x256, .f32⟩
  | .local _ .vmem, ⟨30, _⟩ => ⟨S1x256, .f32⟩
  | .local _ .vmem, ⟨31, _⟩ => ⟨S8192x256, .f32⟩
  | .local _ .vmem, ⟨32, _⟩ => ⟨S8192x256, .f32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev main_v17 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg8_0 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22
abbrev cc1_sem7_0 : DmaSem sig := 23
abbrev cc1_sem8_0 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem5_1 : DmaSem sig := 32

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8192x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S8x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8192x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S32768x3 : Shape := ⟨2, ![32768, 3]⟩
abbrev S4 : Shape := ⟨1, ![4]⟩
abbrev S8192x3 : Shape := ⟨2, ![8192, 3]⟩
abbrev S32768x128 : Shape := ⟨2, ![32768, 128]⟩
abbrev S8192x256 : Shape := ⟨2, ![8192, 256]⟩
abbrev S256x384 : Shape := ⟨2, ![256, 384]⟩
abbrev S256 : Shape := ⟨1, ![256]⟩
abbrev S256x256 : Shape := ⟨2, ![256, 256]⟩
abbrev S4x8192x3 : Shape := ⟨3, ![4, 8192, 3]⟩
abbrev S4x2048x3 : Shape := ⟨3, ![4, 2048, 3]⟩
abbrev S4x2048x256 : Shape := ⟨3, ![4, 2048, 256]⟩
abbrev S4x8192x1x3 : Shape := ⟨4, ![4, 8192, 1, 3]⟩
abbrev S4x1x2048x3 : Shape := ⟨4, ![4, 1, 2048, 3]⟩
abbrev S4x8192x2048x3 : Shape := ⟨4, ![4, 8192, 2048, 3]⟩
abbrev S_ : Shape := ⟨0, ![]⟩
abbrev S4x8192x2048 : Shape := ⟨3, ![4, 8192, 2048]⟩
abbrev S4x8192 : Shape := ⟨2, ![4, 8192]⟩
abbrev S4x8192x1 : Shape := ⟨3, ![4, 8192, 1]⟩
abbrev S4x8192x3x1 : Shape := ⟨4, ![4, 8192, 3, 1]⟩
abbrev S1 : Shape := ⟨1, ![1]⟩
abbrev S1x1x1x1 : Shape := ⟨4, ![1, 1, 1, 1]⟩
abbrev S4x8192x3x256 : Shape := ⟨4, ![4, 8192, 3, 256]⟩
abbrev S4x8192x256 : Shape := ⟨3, ![4, 8192, 256]⟩
abbrev S32768x256 : Shape := ⟨2, ![32768, 256]⟩
abbrev S32768x384 : Shape := ⟨2, ![32768, 384]⟩
abbrev S384x256 : Shape := ⟨2, ![384, 256]⟩
abbrev S1x256 : Shape := ⟨2, ![1, 256]⟩

abbrev nBuf : Space → Nat
  | .hbm => 140
  | .vmem => 0
  | .smem => 0
  | _ => 0

abbrev hbmTy0_0 (i : Nat) : BufTy := match i % 128 with
  | 0 => ⟨S32768x3, .f32⟩
  | 1 => ⟨S4, .i32⟩
  | 2 => ⟨S8192x3, .f32⟩
  | 3 => ⟨S4, .i32⟩
  | 4 => ⟨S32768x128, .f32⟩
  | 5 => ⟨S8192x256, .f32⟩
  | 6 => ⟨S256x384, .f32⟩
  | 7 => ⟨S256, .f32⟩
  | 8 => ⟨S256, .f32⟩
  | 9 => ⟨S256x256, .f32⟩
  | 10 => ⟨S256, .f32⟩
  | 11 => ⟨S256, .f32⟩
  | 12 => ⟨S4x8192x3, .f32⟩
  | 13 => ⟨S4x2048x3, .f32⟩
  | 14 => ⟨S4x2048x256, .f32⟩
  | 15 => ⟨S4x8192x1x3, .f32⟩
  | 16 => ⟨S4x1x2048x3, .f32⟩
  | 17 => ⟨S4x8192x2048x3, .f32⟩
  | 18 => ⟨S4x8192x2048x3, .f32⟩
  | 19 => ⟨S4x8192x2048x3, .f32⟩
  | 20 => ⟨S4x8192x2048x3, .f32⟩
  | 21 => ⟨S_, .f32⟩
  | 22 => ⟨S4x8192x2048, .f32⟩
  | 23 => ⟨S4x8192x2048, .f32⟩
  | 24 => ⟨S4x8192x3, .f32⟩
  | 25 => ⟨S4x8192x3, .i32⟩
  | 26 => ⟨S4x8192x3, .f32⟩
  | 27 => ⟨S_, .f32⟩
  | 28 => ⟨S4x8192x3, .f32⟩
  | 29 => ⟨S4x8192x3, .f32⟩
  | 30 => ⟨S4x8192x3, .f32⟩
  | 31 => ⟨S_, .f32⟩
  | 32 => ⟨S4x8192x3, .f32⟩
  | 33 => ⟨S4x8192x3, .f32⟩
  | 34 => ⟨S_, .f32⟩
  | 35 => ⟨S4x8192x3, .f32⟩
  | 36 => ⟨S4x8192x3, .f32⟩
  | 37 => ⟨S_, .f32⟩
  | 38 => ⟨S4x8192, .f32⟩
  | 39 => ⟨S4x8192x1, .f32⟩
  | 40 => ⟨S4x8192x3, .f32⟩
  | 41 => ⟨S4x8192x3, .f32⟩
  | 42 => ⟨S_, .i32⟩
  | 43 => ⟨S4x8192x3, .i32⟩
  | 44 => ⟨S4x8192x3, .i1⟩
  | 45 => ⟨S_, .i32⟩
  | 46 => ⟨S4x8192x3, .i32⟩
  | 47 => ⟨S4x8192x3, .i32⟩
  | 48 => ⟨S4x8192x3, .i32⟩
  | 49 => ⟨S4x8192x3x1, .i32⟩
  | 50 => ⟨S1, .i32⟩
  | 51 => ⟨S_, .i32⟩
  | 52 => ⟨S4x8192x3x1, .i32⟩
  | 53 => ⟨S4x8192x3x1, .i1⟩
  | 54 => ⟨S1x1x1x1, .i32⟩
  | 55 => ⟨S4x8192x3x1, .i32⟩
  | 56 => ⟨S4x8192x3x1, .i1⟩
  | 57 => ⟨S4x8192x3x1, .i1⟩
  | 58 => ⟨S_, .i1⟩
  | 59 => ⟨S4x8192x3, .i1⟩
  | 60 => ⟨S4x8192x3x256, .f32⟩
  | 61 => ⟨S4x8192x3x256, .i1⟩
  | 62 => ⟨S_, .f32⟩
  | 63 => ⟨S4x8192x3x256, .f32⟩
  | 64 => ⟨S4x8192x3x256, .f32⟩
  | 65 => ⟨S4x8192x3x1, .f32⟩
  | 66 => ⟨S4x8192x3x256, .f32⟩
  | 67 => ⟨S4x8192x3x256, .f32⟩
  | 68 => ⟨S_, .f32⟩
  | 69 => ⟨S4x8192x256, .f32⟩
  | 70 => ⟨S32768x256, .f32⟩
  | 71 => ⟨S32768x384, .f32⟩
  | 72 => ⟨S384x256, .f32⟩
  | 73 => ⟨S32768x256, .f32⟩
  | 74 => ⟨S_, .f32⟩
  | 75 => ⟨S256, .f32⟩
  | 76 => ⟨S1x256, .f32⟩
  | 77 => ⟨S_, .f32⟩
  | 78 => ⟨S1x256, .f32⟩
  | 79 => ⟨S1x256, .f32⟩
  | 80 => ⟨S32768x256, .f32⟩
  | 81 => ⟨S32768x256, .f32⟩
  | 82 => ⟨S32768x256, .f32⟩
  | 83 => ⟨S_, .f32⟩
  | 84 => ⟨S256, .f32⟩
  | 85 => ⟨S1x256, .f32⟩
  | 86 => ⟨S_, .f32⟩
  | 87 => ⟨S1x256, .f32⟩
  | 88 => ⟨S1x256, .f32⟩
  | 89 => ⟨S32768x256, .f32⟩
  | 90 => ⟨S32768x256, .f32⟩
  | 91 => ⟨S_, .f32⟩
  | 92 => ⟨S1x256, .f32⟩
  | 93 => ⟨S1x256, .f32⟩
  | 94 => ⟨S1x256, .f32⟩
  | 95 => ⟨S32768x256, .f32⟩
  | 96 => ⟨S32768x256, .f32⟩
  | 97 => ⟨S1x256, .f32⟩
  | 98 => ⟨S32768x256, .f32⟩
  | 99 => ⟨S32768x256, .f32⟩
  | 100 => ⟨S1x256, .f32⟩
  | 101 => ⟨S32768x256, .f32⟩
  | 102 => ⟨S32768x256, .f32⟩
  | 103 => ⟨S_, .f32⟩
  | 104 => ⟨S32768x256, .f32⟩
  | 105 => ⟨S32768x256, .f32⟩
  | 106 => ⟨S256x256, .f32⟩
  | 107 => ⟨S32768x256, .f32⟩
  | 108 => ⟨S_, .f32⟩
  | 109 => ⟨S256, .f32⟩
  | 110 => ⟨S1x256, .f32⟩
  | 111 => ⟨S_, .f32⟩
  | 112 => ⟨S1x256, .f32⟩
  | 113 => ⟨S1x256, .f32⟩
  | 114 => ⟨S32768x256, .f32⟩
  | 115 => ⟨S32768x256, .f32⟩
  | 116 => ⟨S32768x256, .f32⟩
  | 117 => ⟨S_, .f32⟩
  | 118 => ⟨S256, .f32⟩
  | 119 => ⟨S1x256, .f32⟩
  | 120 => ⟨S_, .f32⟩
  | 121 => ⟨S1x256, .f32⟩
  | 122 => ⟨S1x256, .f32⟩
  | 123 => ⟨S32768x256, .f32⟩
  | 124 => ⟨S32768x256, .f32⟩
  | 125 => ⟨S_, .f32⟩
  | 126 => ⟨S1x256, .f32⟩
  | 127 => ⟨S1x256, .f32⟩
  | _ => ⟨S32768x3, .f32⟩

abbrev hbmTy0_1 (i : Nat) : BufTy := match i % 128 with
  | 0 => ⟨S1x256, .f32⟩
  | 1 => ⟨S32768x256, .f32⟩
  | 2 => ⟨S32768x256, .f32⟩
  | 3 => ⟨S1x256, .f32⟩
  | 4 => ⟨S32768x256, .f32⟩
  | 5 => ⟨S32768x256, .f32⟩
  | 6 => ⟨S1x256, .f32⟩
  | 7 => ⟨S32768x256, .f32⟩
  | 8 => ⟨S32768x256, .f32⟩
  | 9 => ⟨S_, .f32⟩
  | 10 => ⟨S32768x256, .f32⟩
  | 11 => ⟨S32768x256, .f32⟩
  | _ => ⟨S32768x3, .f32⟩

abbrev hbmTy (i : Nat) : BufTy := match i / 128 with
  | 0 => hbmTy0_0 i
  | 1 => hbmTy0_1 i
  | _ => ⟨S32768x3, .f32⟩

abbrev bufTy : (tb : Table) → Fin (tcTables nBuf tb) → BufTy
  | .hbm, ⟨i, _⟩ => hbmTy i
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_values : Ref sig .tc := ⟨.hbm, 24, rfl⟩
abbrev main_indices : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_4 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_cst_5 : Ref sig .tc := ⟨.hbm, 74, rfl⟩
abbrev main_v32 : Ref sig .tc := ⟨.hbm, 75, rfl⟩
abbrev main_v33 : Ref sig .tc := ⟨.hbm, 76, rfl⟩
abbrev main_cst_6 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_7 : Ref sig .tc := ⟨.hbm, 83, rfl⟩
abbrev main_v39 : Ref sig .tc := ⟨.hbm, 84, rfl⟩
abbrev main_v40 : Ref sig .tc := ⟨.hbm, 85, rfl⟩
abbrev main_cst_8 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_cst_9 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_call1_cst : Ref sig .tc := ⟨.hbm, 103, rfl⟩
abbrev main_call1_v0 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_cst_10 : Ref sig .tc := ⟨.hbm, 108, rfl⟩
abbrev main_v59 : Ref sig .tc := ⟨.hbm, 109, rfl⟩
abbrev main_v60 : Ref sig .tc := ⟨.hbm, 110, rfl⟩
abbrev main_cst_11 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_cst_12 : Ref sig .tc := ⟨.hbm, 117, rfl⟩
abbrev main_v66 : Ref sig .tc := ⟨.hbm, 118, rfl⟩
abbrev main_v67 : Ref sig .tc := ⟨.hbm, 119, rfl⟩
abbrev main_cst_13 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_14 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_call2_cst : Ref sig .tc := ⟨.hbm, 137, rfl⟩
abbrev main_call2_v0 : Ref sig .tc := ⟨.hbm, 138, rfl⟩
abbrev main_v83 : Ref sig .tc := ⟨.hbm, 139, rfl⟩

abbrev nD : Nat := 1
abbrev τ : Topo := Topo.v7x

variable {F : FTy → Type} [FloatOps F]
-- ==== Proof.Nearest.lean ====
/- Inverse-distance interpolation over the three nearest of a finite family of distances: picking them by successive
   minima, and weighting them by one scaling of the sum, agrees with picking them by position and weighting each. -/
module

public import Idealize.ShloMosaic.Lib.IdealHost

@[expose] public section

noncomputable section

namespace Cert.Proof

open Idealize.ShloMosaic

/-- The constant that keeps the reciprocal of a distance finite. -/
def tiny : EReal := Ideal.ofBits .f32 0x322BCC77#32

/-- That constant is a positive real. -/
theorem tiny_pos : ∃ e : ℝ, 0 < e ∧ tiny = (e : EReal) := by
  refine ⟨_, ?_, (by simp [tiny, Ideal.ofBits, Ideal.ieee, -EReal.coe_mul]; rfl)⟩
  positivity

/-- The single-precision word of positive infinity. -/
theorem infinity_word : Ideal.ofBits .f32 0x7F800000#32 = ⊤ := by simp [Ideal.ofBits, Ideal.ieee]

/-- The squared distance of two points of three-space. -/
def dist2 (u k : Fin 3 → EReal) : EReal :=
  (u 0 - k 0) * (u 0 - k 0) + (u 1 - k 1) * (u 1 - k 1) + (u 2 - k 2) * (u 2 - k 2)

/-- A square is nonnegative, at the infinities too. -/
theorem square_nonneg (x : EReal) : 0 ≤ x * x := by
  rcases le_total 0 x with h | h
  · exact mul_nonneg h h
  · rw [← neg_mul_neg]
    have h' : 0 ≤ -x := by simpa using EReal.neg_le_neg_iff.mpr h
    exact mul_nonneg h' h'

/-- A squared distance is nonnegative. -/
theorem dist2_nonneg (u k : Fin 3 → EReal) : 0 ≤ dist2 u k :=
  add_nonneg (add_nonneg (square_nonneg _) (square_nonneg _)) (square_nonneg _)

/-- The reciprocal of the distance whose square is `d`. -/
def recip (d : EReal) : EReal := Ideal.div 1 (Ideal.sqrt (max d 0) + tiny)

/-- At a finite squared distance it is a positive real. -/
theorem recip_real {d : EReal} (h0 : 0 ≤ d) (ht : d < ⊤) : ∃ w : ℝ, 0 < w ∧ recip d = (w : EReal) := by
  obtain ⟨e, he, hE⟩ := tiny_pos
  lift d to ℝ using ⟨ht.ne, (lt_of_lt_of_le EReal.bot_lt_zero h0).ne'⟩ with r
  have hr : 0 ≤ r := by exact_mod_cast h0
  have hs : Ideal.sqrt (r : EReal) = (Real.sqrt r : EReal) := if_neg (not_lt.mpr hr)
  have hp : 0 < Real.sqrt r + e := add_pos_of_nonneg_of_pos (Real.sqrt_nonneg r) he
  refine ⟨1 / (Real.sqrt r + e), by positivity, ?_⟩
  rw [recip, max_eq_left h0, hs, hE, ← EReal.coe_add, Ideal.div_coe hp.ne', one_mul]

variable {n : Nat}

/-- `a`, `b`, `c` are, in this order, the three strictly nearest positions of `d`, at finite distances. -/
structure Nearest (d : Fin n → EReal) (a b c : Fin n) : Prop where
  first : d a < d b
  second : d b < d c
  rest : ∀ j, j ≠ a → j ≠ b → j ≠ c → d c < d j
  finite : d c < ⊤

/-- The least distance. -/
def min1 (d : Fin n → EReal) : EReal := Finset.univ.fold min ⊤ d
/-- The least distance other than the least. -/
def min2 (d : Fin n → EReal) : EReal := Finset.univ.fold min ⊤ fun j => if d j = min1 d then ⊤ else d j
/-- The least distance above the second. -/
def min3 (d : Fin n → EReal) : EReal := Finset.univ.fold min ⊤ fun j => if d j ≤ min2 d then ⊤ else d j

/-- A minimum that is attained. -/
theorem fold_min_eq {f : Fin n → EReal} {a : Fin n} {v : EReal} (ha : f a = v) (h : ∀ j, v ≤ f j) :
    Finset.univ.fold min ⊤ f = v := by
  apply le_antisymm
  · exact (Finset.fold_min_le v).mpr (Or.inr ⟨a, Finset.mem_univ a, ha.le⟩)
  · exact (Finset.le_fold_min v).mpr ⟨le_top, fun j _ => h j⟩

namespace Nearest
variable {d : Fin n → EReal} {a b c : Fin n}

/-- The first and the second nearest differ. -/
theorem ne_ab (h : Nearest d a b c) : a ≠ b := fun e => absurd h.first (by rw [e]; exact lt_irrefl _)
/-- The second and the third nearest differ. -/
theorem ne_bc (h : Nearest d a b c) : b ≠ c := fun e => absurd h.second (by rw [e]; exact lt_irrefl _)
/-- The first and the third nearest differ. -/
theorem ne_ac (h : Nearest d a b c) : a ≠ c := fun e =>
  absurd (h.first.trans h.second) (by rw [e]; exact lt_irrefl _)

/-- Every position is one of the three or farther. -/
theorem cases (h : Nearest d a b c) (j : Fin n) : j = a ∨ j = b ∨ j = c ∨ d c < d j := by
  by_cases ha : j = a
  · exact .inl ha
  by_cases hb : j = b
  · exact .inr (.inl hb)
  by_cases hc : j = c
  · exact .inr (.inr (.inl hc))
  · exact .inr (.inr (.inr (h.rest j ha hb hc)))

/-- The least distance is the nearest point's. -/
theorem min1_eq (h : Nearest d a b c) : min1 d = d a := by
  refine fold_min_eq rfl fun j => ?_
  rcases h.cases j with rfl | rfl | rfl | hj
  · exact le_rfl
  · exact h.first.le
  · exact (h.first.trans h.second).le
  · exact (h.first.trans (h.second.trans hj)).le

/-- The second masked minimum is the second nearest point's distance. -/
theorem min2_eq (h : Nearest d a b c) : min2 d = d b := by
  have h1 := h.min1_eq
  refine fold_min_eq (a := b) (by rw [h1, if_neg h.first.ne']) fun j => ?_
  split
  · exact le_top
  · rename_i hne
    rcases h.cases j with rfl | rfl | rfl | hj
    · exact absurd h1.symm hne
    · exact le_rfl
    · exact h.second.le
    · exact (h.second.trans hj).le

/-- The third masked minimum is the third nearest point's distance. -/
theorem min3_eq (h : Nearest d a b c) : min3 d = d c := by
  have h2 := h.min2_eq
  refine fold_min_eq (a := c) (by rw [h2, if_neg (not_le.mpr h.second)]) fun j => ?_
  split
  · exact le_top
  · rename_i hne
    rw [h2] at hne
    rcases h.cases j with rfl | rfl | rfl | hj
    · exact absurd h.first.le hne
    · exact absurd le_rfl hne
    · exact le_rfl
    · exact hj.le

end Nearest

/-- The weight a position gets by comparing its distance with the three minima. -/
def scatter (d : Fin n → EReal) (j : Fin n) : EReal :=
  if d j = min1 d then recip (min1 d)
  else if d j = min2 d then recip (min2 d)
  else if d j = min3 d then recip (min3 d) else 0

/-- Interpolation by the three minima: the weighted sum over all positions, scaled once. -/
def interpByMin (d f : Fin n → EReal) : EReal :=
  (∑ j, scatter d j * f j) * Ideal.div 1 (recip (min1 d) + recip (min2 d) + recip (min3 d))

/-- Interpolation by three given positions: each value by its own normalised weight. -/
def interpAt (d f : Fin n → EReal) (σ : Fin 3 → Fin n) : EReal :=
  ∑ k, f (σ k) * Ideal.div (recip (d (σ k))) (∑ l, recip (d (σ l)))

namespace Nearest
variable {d : Fin n → EReal} {σ : Fin 3 → Fin n}

/-- The weighted sum over all positions has three terms. -/
theorem sum_scatter (h : Nearest d (σ 0) (σ 1) (σ 2)) (f : Fin n → EReal) :
    ∑ j, scatter d j * f j
      = recip (d (σ 0)) * f (σ 0) + (recip (d (σ 1)) * f (σ 1) + recip (d (σ 2)) * f (σ 2)) := by
  have h1 := h.min1_eq; have h2 := h.min2_eq; have h3 := h.min3_eq
  have e0 : scatter d (σ 0) = recip (d (σ 0)) := by unfold scatter; rw [h1, if_pos rfl]
  have e1 : scatter d (σ 1) = recip (d (σ 1)) := by
    unfold scatter; rw [h1, h2, if_neg h.first.ne', if_pos rfl]
  have e2 : scatter d (σ 2) = recip (d (σ 2)) := by
    unfold scatter; rw [h1, h2, h3, if_neg (h.first.trans h.second).ne', if_neg h.second.ne', if_pos rfl]
  rw [← Finset.sum_subset (Finset.subset_univ {σ 0, σ 1, σ 2})]
  · rw [Finset.sum_insert (by simp [h.ne_ab, h.ne_ac]), Finset.sum_insert (by simp [h.ne_bc]), Finset.sum_singleton,
      e0, e1, e2]
  · intro j _ hj
    simp only [Finset.mem_insert, Finset.mem_singleton, not_or] at hj
    have hr := h.rest j hj.1 hj.2.1 hj.2.2
    unfold scatter
    rw [h1, h2, h3, if_neg (h.first.trans (h.second.trans hr)).ne', if_neg (h.second.trans hr).ne', if_neg hr.ne',
      zero_mul]

/-- The two interpolations agree on real values, and the result is real. -/
theorem interp_eq (h : Nearest d (σ 0) (σ 1) (σ 2)) (h0 : ∀ j, 0 ≤ d j) {f : Fin n → EReal}
    (hf : ∀ j, ∃ r : ℝ, f j = (r : EReal)) :
    interpByMin d f = interpAt d f σ ∧ ∃ r : ℝ, interpAt d f σ = (r : EReal) := by
  obtain ⟨w0, p0, q0⟩ := recip_real (h0 (σ 0)) ((h.first.trans h.second).trans h.finite)
  obtain ⟨w1, p1, q1⟩ := recip_real (h0 (σ 1)) (h.second.trans h.finite)
  obtain ⟨w2, p2, q2⟩ := recip_real (h0 (σ 2)) h.finite
  obtain ⟨f0, r0⟩ := hf (σ 0)
  obtain ⟨f1, r1⟩ := hf (σ 1)
  obtain ⟨f2, r2⟩ := hf (σ 2)
  have hw : w0 + w1 + w2 ≠ 0 := by positivity
  have hR : interpAt d f σ = ((f0 * (w0 * (1 / (w0 + w1 + w2))) + f1 * (w1 * (1 / (w0 + w1 + w2)))
      + f2 * (w2 * (1 / (w0 + w1 + w2))) : ℝ) : EReal) := by
    unfold interpAt
    simp only [Fin.sum_univ_three, q0, q1, q2, r0, r1, r2, ← EReal.coe_add, Ideal.div_coe hw, ← EReal.coe_mul]
  refine ⟨?_, _, hR⟩
  rw [hR, interpByMin, h.sum_scatter, h.min1_eq, h.min2_eq, h.min3_eq, q0, q1, q2, r0, r1, r2]
  simp only [← EReal.coe_add, Ideal.div_coe hw, ← EReal.coe_mul, one_mul]
  congr 1
  ring

end Nearest

end Cert.Proof

end
-- ==== Proof.Norm.lean ====
/- Batch normalisation followed by a rectifier: by the first two moments and a reciprocal square root, and by the mean
   squared deviation and a division by the square root.  On real values the two agree. -/
module

public import Idealize.ShloMosaic.Lib.IdealHost

@[expose] public section

noncomputable section

namespace Cert.Proof

open Idealize.ShloMosaic

/-- The number of rows, `32768`. -/
def rowCount : EReal := Ideal.ofBits .f32 0x47000000#32
/-- Its reciprocal, a power of two. -/
def perRow : EReal := Ideal.ofBits .f32 0x38000000#32
/-- The constant added to a variance. -/
def floor : EReal := Ideal.ofBits .f32 0x3727C5AC#32

/-- The row count is the real number 32768. -/
theorem rowCount_eq : rowCount = ((32768 : ℝ) : EReal) := by
  simp [rowCount, Ideal.ofBits, Ideal.ieee, -EReal.coe_mul]; norm_num

/-- Its reciprocal is exact. -/
theorem perRow_eq : perRow = ((1 / 32768 : ℝ) : EReal) := by
  simp [perRow, Ideal.ofBits, Ideal.ieee, -EReal.coe_mul]; norm_num

/-- The constant added to a variance is a positive real. -/
theorem floor_pos : ∃ e : ℝ, 0 < e ∧ floor = (e : EReal) := by
  refine ⟨_, ?_, (by simp [floor, Ideal.ofBits, Ideal.ieee, -EReal.coe_mul]; rfl)⟩
  positivity

/-- A sum of reals is the sum of their embeddings. -/
theorem coe_sum {ι : Type*} (s : Finset ι) (r : ι → ℝ) : ∑ i ∈ s, (r i : EReal) = ((∑ i ∈ s, r i : ℝ) : EReal) := by
  classical
  induction s using Finset.induction_on with
  | empty => simp
  | insert a s ha ih => rw [Finset.sum_insert ha, Finset.sum_insert ha, ih, EReal.coe_add]

/-- A finite sum of products of reals is real. -/
theorem sum_mul_real {ι : Type*} (s : Finset ι) {f g : ι → EReal} (hf : ∀ i, ∃ r : ℝ, f i = (r : EReal))
    (hg : ∀ i, ∃ r : ℝ, g i = (r : EReal)) : ∃ r : ℝ, ∑ i ∈ s, f i * g i = (r : EReal) := by
  choose p hp using hf
  choose q hq using hg
  exact ⟨_, by simp only [hp, hq, ← EReal.coe_mul]; exact coe_sum s _⟩

/-- Normalisation by the two moments, as one scale and one shift, rectified. -/
def normByMoments (x : Fin 32768 → EReal) (g b : EReal) (i : Fin 32768) : EReal :=
  max ((x i - (∑ k, x k) * perRow)
    * (Ideal.rsqrt ((∑ k, x k * x k) * perRow - (∑ k, x k) * perRow * ((∑ k, x k) * perRow) + floor) * g) + b) 0

/-- The mean of the rows. -/
def mean (x : Fin 32768 → EReal) : EReal := Ideal.div (∑ k, x k) rowCount

/-- The mean squared deviation from the mean. -/
def variance (x : Fin 32768 → EReal) : EReal := Ideal.div (∑ k, (x k - mean x) * (x k - mean x)) rowCount

/-- Normalisation by the mean and the mean squared deviation, rectified. -/
def normByDeviation (x : Fin 32768 → EReal) (g b : EReal) (i : Fin 32768) : EReal :=
  max (Ideal.div (x i - mean x) (Ideal.sqrt (variance x + floor)) * g + b) 0

/-- The mean squared deviation is the second moment less the square of the first. -/
theorem deviation_eq (r : Fin 32768 → ℝ) :
    (∑ k, (r k - (∑ k, r k) * (1 / 32768)) * (r k - (∑ k, r k) * (1 / 32768))) * (1 / 32768)
      = (∑ k, r k * r k) * (1 / 32768) - (∑ k, r k) * (1 / 32768) * ((∑ k, r k) * (1 / 32768)) := by
  generalize hμ : (∑ k, r k) * (1 / 32768) = μ
  have hs : ∑ k, r k = 32768 * μ := by rw [← hμ]; ring
  have : ∑ k, (r k - μ) * (r k - μ) = ∑ k, r k * r k - 2 * μ * ∑ k, r k + 32768 * (μ * μ) := by
    have e : ∀ k, (r k - μ) * (r k - μ) = r k * r k - 2 * μ * r k + μ * μ := fun k => by ring
    simp only [e, Finset.sum_add_distrib, Finset.sum_sub_distrib, ← Finset.mul_sum, Finset.sum_const, Finset.card_univ,
      Fintype.card_fin, nsmul_eq_mul]
    push_cast
    ring
  rw [this, hs]
  ring

/-- What the two normalisations have in common on real rows: a real mean and a positive real root. -/
theorem norm_core {x : Fin 32768 → EReal} (hx : ∀ k, ∃ r : ℝ, x k = (r : EReal)) :
    ∃ (μ s : ℝ), 0 < s ∧ mean x = (μ : EReal) ∧ (∑ k, x k) * perRow = (μ : EReal)
      ∧ Ideal.sqrt (variance x + floor) = (s : EReal)
      ∧ Ideal.rsqrt ((∑ k, x k * x k) * perRow - (μ : EReal) * (μ : EReal) + floor) = ((1 / s : ℝ) : EReal) := by
  choose r hr using hx
  obtain ⟨e, he, hE⟩ := floor_pos
  have hN : (32768 : ℝ) ≠ 0 := by norm_num
  have hm : (∑ k, x k) * perRow = (((∑ k, r k) * (1 / 32768) : ℝ) : EReal) := by
    simp only [hr, coe_sum, perRow_eq, ← EReal.coe_mul]
  have hmean : mean x = (((∑ k, r k) * (1 / 32768) : ℝ) : EReal) := by
    rw [mean, rowCount_eq, Ideal.div_coe hN, ← perRow_eq, hm]
  generalize hμ : (∑ k, r k) * (1 / 32768) = μ at *
  have hv : variance x = (((∑ k, (r k - μ) * (r k - μ)) * (1 / 32768) : ℝ) : EReal) := by
    rw [variance, hmean, rowCount_eq, Ideal.div_coe hN]
    simp only [hr, ← EReal.coe_sub, ← EReal.coe_mul, coe_sum]
  have hv0 : 0 ≤ (∑ k, (r k - μ) * (r k - μ)) * (1 / 32768) :=
    mul_nonneg (Finset.sum_nonneg fun k _ => mul_self_nonneg _) (by norm_num)
  have hq : (∑ k, x k * x k) * perRow - (μ : EReal) * (μ : EReal)
      = (((∑ k, (r k - μ) * (r k - μ)) * (1 / 32768) : ℝ) : EReal) := by
    have hd := deviation_eq r
    rw [hμ] at hd
    rw [hd]
    simp only [hr, perRow_eq, ← EReal.coe_mul, coe_sum, ← EReal.coe_sub]
  generalize (∑ k, (r k - μ) * (r k - μ)) * (1 / 32768) = v at *
  have hp : 0 < v + e := add_pos_of_nonneg_of_pos hv0 he
  refine ⟨μ, Real.sqrt (v + e), Real.sqrt_pos.mpr hp, hmean, hm, ?_, ?_⟩
  · rw [hv, hE, ← EReal.coe_add]
    exact if_neg (not_lt.mpr hp.le)
  · rw [hq, hE, ← EReal.coe_add, one_div]
    exact (if_neg (not_lt.mpr hp.le)).trans (if_neg hp.ne')

/-- The two normalisations agree on real rows, whatever the scale and the shift. -/
theorem norm_eq {x : Fin 32768 → EReal} (hx : ∀ k, ∃ r : ℝ, x k = (r : EReal)) (g b : EReal) (i : Fin 32768) :
    normByMoments x g b i = normByDeviation x g b i := by
  obtain ⟨μ, s, hs, h1, h2, h3, h4⟩ := norm_core hx
  rw [normByMoments, normByDeviation, h2, h4, h1, h3, Ideal.div_coe hs.ne', mul_assoc]

/-- With a real scale and shift the result is real. -/
theorem norm_real {x : Fin 32768 → EReal} (hx : ∀ k, ∃ r : ℝ, x k = (r : EReal)) {g b : EReal}
    (hg : ∃ r : ℝ, g = (r : EReal)) (hb : ∃ r : ℝ, b = (r : EReal)) (i : Fin 32768) :
    ∃ r : ℝ, normByDeviation x g b i = (r : EReal) := by
  obtain ⟨μ, s, hs, h1, h2, h3, h4⟩ := norm_core hx
  obtain ⟨r, hr⟩ := hx i
  obtain ⟨g, rfl⟩ := hg
  obtain ⟨b, rfl⟩ := hb
  refine ⟨max ((r - μ) * (1 / s) * g + b) 0, ?_⟩
  rw [normByDeviation, h1, h3, hr, Ideal.div_coe hs.ne']
  simp only [← EReal.coe_sub, ← EReal.coe_mul, ← EReal.coe_add]
  exact (EReal.coe_strictMono.monotone.map_max (a := (r - μ) * (1 / s) * g + b) (b := 0)).symm

end Cert.Proof

end
-- ==== Proof.Layers.lean ====
/- The whole computation on arrays of extended reals, spelt as the kernel arranges it and as the reference arranges it,
   and the agreement of the two. -/
module

public import proofs.«01_k».proof.Proof.Nearest
public import proofs.«01_k».proof.Proof.Norm

@[expose] public section

noncomputable section

namespace Cert.Proof

open Idealize.ShloMosaic

/-- Being a real number. -/
def Real' (x : EReal) : Prop := ∃ r : ℝ, x = (r : EReal)

/-- The batch element an unknown point belongs to. -/
def batchOf (n : Fin 32768) : Fin 4 := ⟨n.val / 8192, by omega⟩

/-- Known point `j` of batch element `b`, among all the known points. -/
def knownRow (b : Fin 4) (j : Fin 2048) : Fin 8192 := ⟨b.val * 2048 + j.val, by omega⟩

/-- The arguments of the computation, by coordinates. -/
structure Input where
  /-- the unknown points -/
  unknown : Fin 32768 → Fin 3 → EReal
  /-- the known points -/
  known : Fin 8192 → Fin 3 → EReal
  /-- features of the unknown points -/
  skip : Fin 32768 → Fin 128 → EReal
  /-- features of the known points -/
  feats : Fin 8192 → Fin 256 → EReal
  /-- the first layer: weights, scale, shift -/
  W1 : Fin 256 → Fin 384 → EReal
  g1 : Fin 256 → EReal
  b1 : Fin 256 → EReal
  /-- the second layer: weights, scale, shift -/
  W2 : Fin 256 → Fin 256 → EReal
  g2 : Fin 256 → EReal
  b2 : Fin 256 → EReal

namespace Input
variable (a : Input)

/-- Squared distances from an unknown point to the known points of its batch element. -/
def dist (n : Fin 32768) (j : Fin 2048) : EReal := dist2 (a.unknown n) (a.known (knownRow (batchOf n) j))

/-- One feature of those known points. -/
def feat (n : Fin 32768) (c : Fin 256) (j : Fin 2048) : EReal := a.feats (knownRow (batchOf n) j) c

/-- First layer, kernel's arrangement: the interpolated and the skipped features are multiplied separately. -/
def first (n : Fin 32768) (o : Fin 256) : EReal :=
  (∑ c : Fin 256, interpByMin (a.dist n) (a.feat n c) * a.W1 o (Fin.castAdd 128 c))
    + ∑ c : Fin 128, a.skip n c * a.W1 o (Fin.natAdd 256 c)

/-- Second layer, kernel's arrangement. -/
def second (n : Fin 32768) (o : Fin 256) : EReal :=
  ∑ c : Fin 256, normByMoments (fun m => a.first m c) (a.g1 c) (a.b1 c) n * a.W2 o c

/-- The result, kernel's arrangement. -/
def result (n : Fin 32768) (o : Fin 256) : EReal :=
  normByMoments (fun m => a.second m o) (a.g2 o) (a.b2 o) n

variable (σ : Fin 32768 → Fin 3 → Fin 2048)

/-- The interpolated features followed by the skipped ones. -/
def joined (n : Fin 32768) (c : Fin 384) : EReal :=
  if h : c.val < 256 then interpAt (a.dist n) (a.feat n ⟨c.val, h⟩) (σ n) else a.skip n ⟨c.val - 256, by omega⟩

/-- First layer, reference's arrangement. -/
def firstRef (n : Fin 32768) (o : Fin 256) : EReal := ∑ c : Fin 384, a.joined σ n c * a.W1 o c

/-- Second layer, reference's arrangement. -/
def secondRef (n : Fin 32768) (o : Fin 256) : EReal :=
  ∑ c : Fin 256, normByDeviation (fun m => a.firstRef σ m c) (a.g1 c) (a.b1 c) n * a.W2 o c

/-- The result, reference's arrangement. -/
def resultRef (n : Fin 32768) (o : Fin 256) : EReal :=
  normByDeviation (fun m => a.secondRef σ m o) (a.g2 o) (a.b2 o) n

/-- What the agreement needs: everything up to the second product is real, and the three nearest are strict. -/
structure Generic : Prop where
  skip : ∀ n c, Real' (a.skip n c)
  feats : ∀ n c, Real' (a.feats n c)
  W1 : ∀ o c, Real' (a.W1 o c)
  g1 : ∀ c, Real' (a.g1 c)
  b1 : ∀ c, Real' (a.b1 c)
  W2 : ∀ o c, Real' (a.W2 o c)
  near : ∀ n, Nearest (a.dist n) (σ n 0) (σ n 1) (σ n 2)

variable {a σ}

/-- Interpolation by masked minima is interpolation at the three nearest points, and its value is real. -/
theorem interp_eq (h : a.Generic σ) (n : Fin 32768) (c : Fin 256) :
    interpByMin (a.dist n) (a.feat n c) = interpAt (a.dist n) (a.feat n c) (σ n)
      ∧ Real' (interpAt (a.dist n) (a.feat n c) (σ n)) :=
  (h.near n).interp_eq (fun _ => dist2_nonneg _ _) fun _ => h.feats _ _

/-- The first 256 entries of a joined row are the interpolated features. -/
theorem joined_left (n : Fin 32768) (c : Fin 256) :
    a.joined σ n (Fin.castAdd 128 c) = interpAt (a.dist n) (a.feat n c) (σ n) := by
  unfold joined
  rw [dif_pos (show (Fin.castAdd 128 c).val < 256 from c.isLt)]
  rfl

/-- The other 128 are the unknown point's own features. -/
theorem joined_right (n : Fin 32768) (c : Fin 128) : a.joined σ n (Fin.natAdd 256 c) = a.skip n c := by
  unfold joined
  rw [dif_neg (by simp)]
  exact congrArg (a.skip n) (Fin.ext (by simp))

/-- The two forms of the first product agree. -/
theorem first_eq (h : a.Generic σ) (n : Fin 32768) (o : Fin 256) : a.first n o = a.firstRef σ n o := by
  unfold firstRef
  rw [show (∑ c : Fin 384, a.joined σ n c * a.W1 o c) = ∑ c : Fin (256 + 128), a.joined σ n c * a.W1 o c from rfl,
    Fin.sum_univ_add, first]
  congr 1
  · exact Finset.sum_congr rfl fun c _ => by rw [(interp_eq h n c).1, joined_left]

/-- The entries of a joined row are real. -/
theorem joined_real (h : a.Generic σ) (n : Fin 32768) (c : Fin 384) : Real' (a.joined σ n c) := by
  unfold joined
  split
  · exact (interp_eq h n _).2
  · exact h.skip _ _

/-- The entries of the first product are real. -/
theorem firstRef_real (h : a.Generic σ) (n : Fin 32768) (o : Fin 256) : Real' (a.firstRef σ n o) :=
  sum_mul_real _ (joined_real h n) (h.W1 o)

/-- The two forms of the second product agree. -/
theorem second_eq (h : a.Generic σ) (n : Fin 32768) (o : Fin 256) : a.second n o = a.secondRef σ n o := by
  unfold second secondRef
  refine Finset.sum_congr rfl fun c _ => ?_
  rw [show (fun m => a.first m c) = fun m => a.firstRef σ m c from funext fun m => first_eq h m c,
    norm_eq (fun m => firstRef_real h m c)]

/-- The entries of the second product are real. -/
theorem secondRef_real (h : a.Generic σ) (n : Fin 32768) (o : Fin 256) : Real' (a.secondRef σ n o) :=
  sum_mul_real _ (fun c => norm_real (fun m => firstRef_real h m c) (h.g1 c) (h.b1 c) n) (h.W2 o)

/-- The kernel's arrangement and the reference's give the same result. -/
theorem result_eq (h : a.Generic σ) (n : Fin 32768) (o : Fin 256) : a.result n o = a.resultRef σ n o := by
  unfold result resultRef
  rw [show (fun m => a.second m o) = fun m => a.secondRef σ m o from funext fun m => second_eq h m o,
    norm_eq (fun m => secondRef_real h m o)]

end Input

end Cert.Proof

end
-- ==== Proof.Args.lean ====
/- The arguments of the computation read off the twelve arrays the programs are given (two, the counts of points, are not
   read). -/
module

public import proofs.«01_k».proof.Proof.Layers
public import Idealize.ShloMosaic.Lib.Pipeline.ValueKit

@[expose] public section

noncomputable section

namespace Cert.Proof

open Idealize.ShloMosaic

/-- The arguments by coordinates. -/
def inputOf (x0 : FVec Ideal ⟨2, ![32768, 3]⟩ .f32) (x2 : FVec Ideal ⟨2, ![8192, 3]⟩ .f32)
    (x4 : FVec Ideal ⟨2, ![32768, 128]⟩ .f32) (x5 : FVec Ideal ⟨2, ![8192, 256]⟩ .f32)
    (x6 : FVec Ideal ⟨2, ![256, 384]⟩ .f32) (x7 x8 : FVec Ideal ⟨1, ![256]⟩ .f32)
    (x9 : FVec Ideal ⟨2, ![256, 256]⟩ .f32) (x10 x11 : FVec Ideal ⟨1, ![256]⟩ .f32) : Input where
  unknown n k := x0 (ix2 n k)
  known j k := x2 (ix2 j k)
  skip n k := x4 (ix2 n k)
  feats j k := x5 (ix2 j k)
  W1 o k := x6 (ix2 o k)
  g1 k := x7 (ix1 k)
  b1 k := x8 (ix1 k)
  W2 o k := x9 (ix2 o k)
  g2 k := x10 (ix1 k)
  b2 k := x11 (ix1 k)

end Cert.Proof

end
-- ==== Proof.Point0.lean ====
/- The first pass of the kernel at one grid point: what its operations compute of the blocks it reads, at each index. -/
module

public import proofs.«01_k».proof.Proof.Gen.KernelIdeal.Skeleton
public import proofs.«01_k».proof.Proof.Layers
public import Idealize.ShloMosaic.Lib.Pipeline.ValueKit

@[expose] public section

set_option maxRecDepth 16384

noncomputable section

namespace Cert.Proof

open Idealize.ShloMosaic Idealize.SL.Sem
open Cert.KernelIdeal Cert.KernelIdeal.Gen

/-- The minimum along the rows of a square block, at a row. -/
theorem row_min (x : FVec Ideal S2048x2048 .f32) (h : S2048x2048.Reduces [1] S2048) (h1) (h2) (r : Fin 2048) :
    multiReduction (F := Ideal) .minimumf [1] S2048 x 0x7F800000#32 h h1 h2 (ix1 r)
      = Finset.univ.fold min ⊤ fun j : Fin 2048 => x (ix2 r j) := by
  rw [multiReduction_minimumf_eq_fold]
  refine (h.fold_filter_drop_single min _ x (ix1 r)).trans ?_
  rw [show (FloatOps.ofBits .f32 0x7F800000#32 : Ideal .f32) = ⊤ from infinity_word]
  refine congrArg (Finset.fold min ⊤ · Finset.univ) (funext fun j => congrArg x ?_)
  funext a
  fin_cases a <;> rfl

variable (u : Vec Ideal S1x2048x3 .f32) (k : Vec Ideal S1x8x2048 .f32)

/-- The distances from row `r` of the unknown block to the columns of the known block. -/
def blockDist (r j : Fin 2048) : EReal := dist2 (fun c => u (ix3 0 r c)) (fun c => k (ix3 0 ⟨c.val, by omega⟩ j))

/-- The block's table of squared distances. -/
theorem pay7_at (r j : Fin 2048) : k0_pay7 u k (ix2 r j) = blockDist u k r j := by
  unfold k0_pay7
  pointwise
  rfl

/-- A column of one entry per row, made of the rows' entries. -/
theorem column_at (x : FVec Ideal S2048 .f32) (r : Fin 2048) :
    shapeCast S2048x1 x shapeCasts_S2048_S2048x1 (ix2 r 0) = x (ix1 r) :=
  shapeCast_apply _ _ (ix2 r 0) (ix1 r) (by
    rw [Shape.rowMajor_val_one, Shape.rowMajor_val_two]
    show r.val = r.val * 1 + 0
    omega)

/-- Its rows' minima. -/
theorem pay8_at (r : Fin 2048) : k0_pay8 u k (ix2 r 0) = min1 (blockDist u k r) := by
  unfold k0_pay8 min1
  refine (column_at _ r).trans ((row_min _ _ _ _ r).trans ?_)
  exact Finset.fold_congr fun j _ => pay7_at u k r j

/-- A block with the entries satisfying a comparison replaced by infinity. -/
theorem masked_eq (x : FVec Ideal S2048x2048 .f32) (m : FVec Ideal S2048x1 .f32) (r j : Fin 2048) :
    select (cmpf .oeq x (broadcastTo S2048x2048 m broadcasts_S2048x1_S2048x2048))
        (broadcast S2048x2048 (Scalar.ofBits .f32 0x7F800000#32 : Ideal .f32)) x (ix2 r j)
      = if x (ix2 r j) = m (ix2 r 0) then (⊤ : EReal) else x (ix2 r j) := by
  pointwise
  rw [infinity_word]

/-- A table with every entry at most its row's bound replaced by infinity. -/
theorem masked_le (x : FVec Ideal S2048x2048 .f32) (m : FVec Ideal S2048x1 .f32) (r j : Fin 2048) :
    select (cmpf .ole x (broadcastTo S2048x2048 m broadcasts_S2048x1_S2048x2048))
        (broadcast S2048x2048 (Scalar.ofBits .f32 0x7F800000#32 : Ideal .f32)) x (ix2 r j)
      = if x (ix2 r j) ≤ m (ix2 r 0) then (⊤ : EReal) else x (ix2 r j) := by
  pointwise
  rw [infinity_word]

/-- The rows' second minima. -/
theorem pay9_at (r : Fin 2048) : k0_pay9 u k (ix2 r 0) = min2 (blockDist u k r) := by
  unfold k0_pay9 min2
  refine (column_at _ r).trans ((row_min _ _ _ _ r).trans ?_)
  refine Finset.fold_congr fun j _ => ?_
  refine (masked_eq (k0_pay7 u k) (k0_pay8 u k) r j).trans ?_
  simp only [pay7_at, pay8_at]

/-- The rows' third minima. -/
theorem pay10_at (r : Fin 2048) : k0_pay10 u k (ix2 r 0) = min3 (blockDist u k r) := by
  unfold k0_pay10 min3
  refine (column_at _ r).trans ((row_min _ _ _ _ r).trans ?_)
  refine Finset.fold_congr fun j _ => ?_
  refine (masked_le (k0_pay7 u k) (k0_pay9 u k) r j).trans ?_
  simp only [pay7_at, pay9_at]

/-- The distance of a squared distance, with the small constant added. -/
theorem root_at (m : FVec Ideal S2048x1 .f32) (r : Fin 2048) :
    addf (sqrt (maximumf m (broadcast S2048x1 (Scalar.ofBits .f32 0x00000000#32 : Ideal .f32))))
        (broadcast S2048x1 (Scalar.ofBits .f32 0x322BCC77#32 : Ideal .f32)) (ix2 r 0)
      = Ideal.sqrt (max (m (ix2 r 0)) 0) + tiny := by
  unfold tiny
  pointwise

/-- The least distance of a row, as the denominator of its weight. -/
theorem pay11_at (r : Fin 2048) :
    k0_pay11 u k (ix2 r 0) = Ideal.sqrt (max (min1 (blockDist u k r)) 0) + tiny := by
  unfold k0_pay11
  refine (root_at (k0_pay8 u k) r).trans ?_
  simp only [pay8_at]

/-- The numerator of that weight. -/
theorem pay12_at (r : Fin 2048) : k0_pay12 (F := Ideal) (ix2 r 0) = 1 := by
  unfold k0_pay12
  pointwise

/-- The product of the interpolated features with the first part of the weights, over any distances and minima. -/
theorem pay13_generic (d : FVec Ideal S2048x2048 .f32) (m1 m2 m3 t w : FVec Ideal S2048x1 .f32)
    (x2 : Vec Ideal S1x2048x256 .f32) (x4 : Vec Ideal S256x256 .f32) (r : Fin 2048) (o : Fin 256) :
    k0_pay13 d m1 m2 m3 t w x2 x4 (ix2 r o)
      = ∑ c : Fin 256,
          (∑ j, (if d (ix2 r j) = m1 (ix2 r 0) then Ideal.div (w (ix2 r 0)) (t (ix2 r 0))
              else if d (ix2 r j) = m2 (ix2 r 0) then Ideal.div 1 (Ideal.sqrt (max (m2 (ix2 r 0)) 0) + tiny)
              else if d (ix2 r j) = m3 (ix2 r 0) then Ideal.div 1 (Ideal.sqrt (max (m3 (ix2 r 0)) 0) + tiny)
              else 0) * x2 (ix3 0 j c))
            * Ideal.div 1 (Ideal.div (w (ix2 r 0)) (t (ix2 r 0)) + Ideal.div 1 (Ideal.sqrt (max (m2 (ix2 r 0)) 0) + tiny)
                + Ideal.div 1 (Ideal.sqrt (max (m3 (ix2 r 0)) 0) + tiny))
            * x4 (ix2 c o) := by
  unfold k0_pay13 tiny
  pointwise

/-- The product of the interpolated features with the first part of the weights. -/
theorem pay13_at (x2 : Vec Ideal S1x2048x256 .f32) (x4 : Vec Ideal S256x256 .f32) (r : Fin 2048) (o : Fin 256) :
    k0_pay13 (k0_pay7 u k) (k0_pay8 u k) (k0_pay9 u k) (k0_pay10 u k) (k0_pay11 u k) k0_pay12 x2 x4 (ix2 r o)
      = ∑ c : Fin 256, interpByMin (blockDist u k r) (fun j => x2 (ix3 0 j c)) * x4 (ix2 c o) := by
  rw [pay13_generic]
  simp only [pay7_at, pay8_at, pay9_at, pay10_at, pay11_at, pay12_at]
  unfold interpByMin scatter recip
  with_reducible rfl

/-- Adding the product of the skipped features with the second part of the weights. -/
theorem pay1_at (x : FVec Ideal S2048x256 .f32) (x3 : Vec Ideal S1x2048x128 .f32) (x5 : Vec Ideal S128x256 .f32)
    (r : Fin 2048) (o : Fin 256) :
    k0_pay1 x x3 x5 (ix2 r o) = x (ix2 r o) + ∑ c : Fin 128, x3 (ix3 0 r c) * x5 (ix2 c o) := by
  unfold k0_pay1
  pointwise

/-- What the first pass computes at a row and a column of a point's blocks. -/
def blockFirst (x0 : Vec Ideal S1x2048x3 .f32) (x1 : Vec Ideal S1x8x2048 .f32) (x2 : Vec Ideal S1x2048x256 .f32)
    (x3 : Vec Ideal S1x2048x128 .f32) (x4 : Vec Ideal S256x256 .f32) (x5 : Vec Ideal S128x256 .f32)
    (r : Fin 2048) (o : Fin 256) : EReal :=
  (∑ c : Fin 256, interpByMin (blockDist x0 x1 r) (fun j => x2 (ix3 0 j c)) * x4 (ix2 c o))
    + ∑ c : Fin 128, x3 (ix3 0 r c) * x5 (ix2 c o)

variable (x0 : Vec Ideal S1x2048x3 .f32) (x1 : Vec Ideal S1x8x2048 .f32) (x2 : Vec Ideal S1x2048x256 .f32)
    (x3 : Vec Ideal S1x2048x128 .f32) (x4 : Vec Ideal S256x256 .f32) (x5 : Vec Ideal S128x256 .f32)

/-- The product the body stores and sums, over a point's blocks. -/
abbrev bodyProduct : FVec Ideal S2048x256 .f32 :=
  k0_pay13 (k0_pay7 x0 x1) (k0_pay8 x0 x1) (k0_pay9 x0 x1) (k0_pay10 x0 x1) (k0_pay11 x0 x1) k0_pay12 x2 x4

/-- The block the first call writes. -/
theorem body_at (r : Fin 2048) (o : Fin 256) :
    k0_pay1 (bodyProduct x0 x1 x2 x4) x3 x5 (ix2 r o) = blockFirst x0 x1 x2 x3 x4 x5 r o := by
  rw [pay1_at, bodyProduct, pay13_at]
  rfl

/-- The block stored. -/
theorem pay2_at (x : FVec Ideal S2048x256 .f32) (r : Fin 2048) (o : Fin 256) :
    k0_pay2 x x3 x5 (ix3 0 r o) = k0_pay1 x x3 x5 (ix2 r o) := by
  unfold k0_pay2
  generalize k0_pay1 x x3 x5 = y
  pointwise

/-- The running column sums. -/
theorem pay5_at (x : FVec Ideal S2048x256 .f32) (s : Vec Ideal S1x256 .f32) (o : Fin 256) :
    k0_pay5 x x3 x5 s (ix2 0 o) = s (ix2 0 o) + ∑ r : Fin 2048, k0_pay1 x x3 x5 (ix2 r o) := by
  unfold k0_pay5
  generalize k0_pay1 x x3 x5 = y
  pointwise

/-- The running column sums of squares. -/
theorem pay6_at (x : FVec Ideal S2048x256 .f32) (s : Vec Ideal S1x256 .f32) (o : Fin 256) :
    k0_pay6 x x3 x5 s (ix2 0 o)
      = s (ix2 0 o) + ∑ r : Fin 2048, k0_pay1 x x3 x5 (ix2 r o) * k0_pay1 x x3 x5 (ix2 r o) := by
  unfold k0_pay6
  generalize k0_pay1 x x3 x5 = y
  pointwise

end Cert.Proof

end
-- ==== Proof.Rows.lean ====
/- A row kept in the first row of an eight-row block: what is read back after it was stored. -/
module

public import proofs.«01_k».proof.Proof.Gen.KernelIdeal.Skeleton
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Proof

open Idealize.ShloMosaic Idealize.SL.Sem
open Cert.KernelIdeal Cert.KernelIdeal.Gen

/-- The first row's place in a block of eight rows. -/
theorem row_place (inb : ∀ a, (![0, 0] : Fin 2 → ℕ) a + (![1, 256] : Fin 2 → ℕ) a ≤ S8x256.size a) (o : Fin 256) :
    (Rect.unit (s := S8x256) ![0, 0] ![1, 256] inb).emb (ix2 (0 : Fin 1) o) = (ix2 (0 : Fin 8) o : S8x256.Idx) := by
  funext a
  refine Fin.ext ?_
  fin_cases a
  · rfl
  · show 0 + 1 * o.val = o.val
    omega

/-- After a store of the first row, that row is what was stored. -/
theorem canon_row (inb : ∀ a, (![0, 0] : Fin 2 → ℕ) a + (![1, 256] : Fin 2 → ℕ) a ≤ S8x256.size a)
    (w : (Rect.unit (s := S8x256) ![0, 0] ![1, 256] inb).shape.Idx → Elt Ideal .f32)
    (L : List (View.Piece (Elt Ideal) S8x256 .f32)) (o : Fin 256) :
    View.canon (⟨Rect.unit (s := S8x256) ![0, 0] ![1, 256] inb, w⟩ :: L) (ix2 (0 : Fin 8) o) = w (ix2 (0 : Fin 1) o) := by
  rw [← row_place inb o]
  exact View.canon_cons_emb _ _ _ _

/-- The same over contents that the block held before. -/
theorem read_row {sig : RefSig} {κ : Kind} {sp : Space} (v : View sig κ sp S8x256 .f32)
    (f : v.ty.Contents (Elt Ideal)) (inb : ∀ a, (![0, 0] : Fin 2 → ℕ) a + (![1, 256] : Fin 2 → ℕ) a ≤ S8x256.size a)
    (w : (Rect.unit (s := S8x256) ![0, 0] ![1, 256] inb).shape.Idx → Elt Ideal .f32)
    (L : List (View.Piece (Elt Ideal) S8x256 .f32)) (o : Fin 256) :
    v.read (Elt Ideal) (v.writes (Elt Ideal) f (⟨Rect.unit (s := S8x256) ![0, 0] ![1, 256] inb, w⟩ :: L)) (ix2 (0 : Fin 8) o)
      = w (ix2 (0 : Fin 1) o) := by
  rw [← row_place inb o]
  exact View.read_writes_cons_emb _ _ _ _ _ _

/-- The first row, loaded. -/
theorem ld_row (inb : ∀ a, (![0, 0] : Fin 2 → ℕ) a + (![1, 256] : Fin 2 → ℕ) a ≤ S8x256.size a)
    (x : S8x256.Idx → Elt Ideal .f32) (o : Fin 256) :
    View.ld x (Rect.unit (s := S8x256) ![0, 0] ![1, 256] inb) (ix2 (0 : Fin 1) o) = x (ix2 (0 : Fin 8) o) :=
  View.ld_unit_apply_of _ _ _ _ _ _ fun a => by
    fin_cases a
    · rfl
    · show o.val = 0 + o.val
      omega

/-- The first row, loaded after a store of the whole block. -/
theorem readCov_row0 {sig : RefSig} {κ : Kind} {sp : Space} (v : View sig κ sp S8x256 .f32)
    (inb : ∀ a, (![0, 0] : Fin 2 → ℕ) a + (![1, 256] : Fin 2 → ℕ) a ≤ S8x256.size a)
    (inb' : ∀ a, (![0, 0] : Fin 2 → ℕ) a + (![8, 256] : Fin 2 → ℕ) a ≤ S8x256.size a)
    (x : S8x256.Idx → Elt Ideal .f32) (o : Fin 256) :
    v.readCov [⟨Rect.unit (s := S8x256) ![0, 0] ![8, 256] inb', x⟩]
        (Rect.unit (s := S8x256) ![0, 0] ![1, 256] inb).toLoadRect (ix2 (0 : Fin 1) o)
      = x (ix2 (0 : Fin 8) o) := by
  simp (disch := decide) only [View.readCov_fill]
  exact ld_row inb x o

end Cert.Proof

end
-- ==== Proof.Region0.lean ====
/- The first pass of the kernel over its whole grid: the arrays it leaves, of the arrays it starts from. -/
module

public import proofs.«01_k».proof.Proof.Point0
public import proofs.«01_k».proof.Proof.Rows
public import proofs.«01_k».proof.Proof.Gen.KernelIdeal.Frame

@[expose] public section

set_option maxRecDepth 16384

noncomputable section

namespace Cert.Proof

open Idealize.ShloMosaic Idealize.SL.Sem
open Cert.KernelIdeal Cert.KernelIdeal.Gen

variable (V : (c : Dev nD) → (b : Ref sig .tc) → Buf (Elt Ideal) ((c.tc : Thread nD τ).loc b)) (c : Dev nD)

/-- What the body computes at a point, at a row and a column of the blocks. -/
def pointFirst (t : Fin cfg0.N) (r : Fin 2048) (o : Fin 256) : EReal :=
  blockFirst (iblk0 V c 0 t) (iblk0 V c 1 t) (iblk0 V c 2 t) (iblk0 V c 3 t) (iblk0 V c 4 t) (iblk0 V c 5 t) r o

/-- The block of rows a point leaves. -/
theorem outs0_rows (t : Fin cfg0.N) (r : Fin 2048) (o : Fin 256) :
    (outsAt0 V c t.val t.isLt).1 (ix3 0 r o) = pointFirst V c t r o := by
  by_cases h : t.val % 16 = 0
  · rw [outsAt0_A V c t h]
    frame_out
    exact (pay2_at _ _ _ r o).trans (body_at _ _ _ _ _ _ r o)
  · rw [outsAt0_B V c t h]
    frame_out
    exact (pay2_at _ _ _ r o).trans (body_at _ _ _ _ _ _ r o)

/-- The first point starts the column sums. -/
theorem outs0_sum_start (t : Fin cfg0.N) (h : t.val % 16 = 0) (o : Fin 256) :
    (outsAt0 V c t.val t.isLt).2.1 (ix2 0 o) = 0 + ∑ r, pointFirst V c t r o := by
  rw [outsAt0_A V c t h]
  frame_out
  refine (canon_row _ _ _ o).trans ((pay5_at _ _ _ _ o).trans ?_)
  rw [readCov_row0]
  exact congrArg₂ _ (by unfold k0_pay3; pointwise) (Finset.sum_congr rfl fun r _ => body_at _ _ _ _ _ _ r o)

/-- Each later point adds to them. -/
theorem outs0_sum_step (t : Fin cfg0.N) (h : ¬ t.val % 16 = 0) (o : Fin 256) :
    (outsAt0 V c t.val t.isLt).2.1 (ix2 0 o)
      = (outsAt0 V c (t.val - 1) (Nat.lt_of_le_of_lt (Nat.sub_le _ _) t.isLt)).2.1 (ix2 0 o)
        + ∑ r, pointFirst V c t r o := by
  rw [outsAt0_B V c t h]
  frame_out
  refine (read_row _ _ _ _ _ o).trans ((pay5_at _ _ _ _ o).trans ?_)
  rw [ld_row]
  exact congrArg₂ _ rfl (Finset.sum_congr rfl fun r _ => body_at _ _ _ _ _ _ r o)

/-- The first point starts the column sums of squares. -/
theorem outs0_square_start (t : Fin cfg0.N) (h : t.val % 16 = 0) (o : Fin 256) :
    (outsAt0 V c t.val t.isLt).2.2 (ix2 0 o) = 0 + ∑ r, pointFirst V c t r o * pointFirst V c t r o := by
  rw [outsAt0_A V c t h]
  frame_out
  refine (canon_row _ _ _ o).trans ((pay6_at _ _ _ _ o).trans ?_)
  rw [readCov_row0]
  exact congrArg₂ _ (by unfold k0_pay4; pointwise)
    (Finset.sum_congr rfl fun r _ => congrArg₂ _ (body_at _ _ _ _ _ _ r o) (body_at _ _ _ _ _ _ r o))

/-- Each later point adds to them. -/
theorem outs0_square_step (t : Fin cfg0.N) (h : ¬ t.val % 16 = 0) (o : Fin 256) :
    (outsAt0 V c t.val t.isLt).2.2 (ix2 0 o)
      = (outsAt0 V c (t.val - 1) (Nat.lt_of_le_of_lt (Nat.sub_le _ _) t.isLt)).2.2 (ix2 0 o)
        + ∑ r, pointFirst V c t r o * pointFirst V c t r o := by
  rw [outsAt0_B V c t h]
  frame_out
  refine (read_row _ _ _ _ _ o).trans ((pay6_at _ _ _ _ o).trans ?_)
  rw [ld_row]
  exact congrArg₂ _ rfl
    (Finset.sum_congr rfl fun r _ => congrArg₂ _ (body_at _ _ _ _ _ _ r o) (body_at _ _ _ _ _ _ r o))

/-- An unknown point, by its batch element and its place in it. -/
def unknownRow (b : Fin 4) (m : Fin 8192) : Fin 32768 := ⟨b.val * 8192 + m.val, by omega⟩

/-- The arrays the first pass reads are the arguments of the computation, rearranged. -/
structure Entry0 (a : Input) : Prop where
  unknown : ∀ b m k, (V c main_v0 (ix3 b m k) : EReal) = a.unknown (unknownRow b m) k
  known : ∀ b (k : Fin 3) j, (V c main_v3 (ix3 b ⟨k.val, by omega⟩ j) : EReal) = a.known (knownRow b j) k
  feats : ∀ b j k, (V c main_v4 (ix3 b j k) : EReal) = a.feats (knownRow b j) k
  skip : ∀ b m k, (V c main_v5 (ix3 b m k) : EReal) = a.skip (unknownRow b m) k
  upper : ∀ k o, (V c main_v7 (ix2 k o) : EReal) = a.W1 o (Fin.castAdd 128 k)
  lower : ∀ k o, (V c main_v8 (ix2 k o) : EReal) = a.W1 o (Fin.natAdd 256 k)

/-- Where each point's blocks stand. -/
theorem places0 : ∀ t : Fin cfg0.N,
    win0_0.index t = ![t.val / 4, t.val % 4, 0] ∧ win0_1.index t = ![t.val / 4, 0, 0] ∧ win0_2.index t = ![t.val / 4, 0, 0]
      ∧ win0_3.index t = ![t.val / 4, t.val % 4, 0] ∧ win0_4.index t = ![0, 0] ∧ win0_5.index t = ![0, 0]
      ∧ win0_6.index t = ![t.val / 4, t.val % 4, 0] := by decide +kernel

/-- The first call has sixteen grid points. -/
theorem points0 (t : Fin cfg0.N) : t.val < 16 := lt_of_lt_of_eq t.isLt N_0

variable {V c} {a : Input}

/-- A point computes the first layer at its rows. -/
theorem pointFirst_eq (h : Entry0 V c a) (t : Fin cfg0.N) (r : Fin 2048) (o : Fin 256) :
    pointFirst V c t r o = a.first ⟨t.val * 2048 + r.val, by have := points0 t; omega⟩ o := by
  have ht := points0 t
  obtain ⟨p0, p1, p2, p3, p4, p5, -⟩ := places0 t
  have hn : ∀ (b m : ℕ) (hb : b < 4) (hm : m < 8192) (h' : t.val * 2048 + r.val < 32768), b = t.val / 4 →
      m = t.val % 4 * 2048 + r.val → unknownRow ⟨b, hb⟩ ⟨m, hm⟩ = ⟨t.val * 2048 + r.val, h'⟩ := by
    intro b m hb hm h' e e'
    subst e e'
    refine Fin.ext ?_
    show t.val / 4 * 8192 + (t.val % 4 * 2048 + r.val) = t.val * 2048 + r.val
    omega
  have hk : (⟨t.val / 4, by omega⟩ : Fin 4) = batchOf ⟨t.val * 2048 + r.val, by omega⟩ := by
    refine Fin.ext ?_
    show t.val / 4 = (t.val * 2048 + r.val) / 8192
    omega
  have e0 : ∀ k, iblk0 V c 0 t (ix3 0 r k) = a.unknown ⟨t.val * 2048 + r.val, by omega⟩ k := fun k => by
    refine Eq.trans (b := V c main_v0 (ix3 ⟨t.val / 4, by omega⟩ ⟨t.val % 4 * 2048 + r.val, by omega⟩ k)) ?_
      ((h.unknown _ _ k).trans (congrArg (a.unknown · k) (hn _ _ _ _ _ rfl rfl)))
    blk_ext [iblk0, p0]
  have e1 : ∀ (k : Fin 3) j, iblk0 V c 1 t (ix3 0 ⟨k.val, by omega⟩ j)
      = a.known (knownRow (batchOf ⟨t.val * 2048 + r.val, by omega⟩) j) k := fun k j => by
    refine Eq.trans (b := V c main_v3 (ix3 ⟨t.val / 4, by omega⟩ ⟨k.val, by omega⟩ j)) ?_
      ((h.known _ k j).trans (congrArg (fun b => a.known (knownRow b j) k) hk))
    blk_ext [iblk0, p1]
  have e2 : ∀ j k, iblk0 V c 2 t (ix3 0 j k)
      = a.feats (knownRow (batchOf ⟨t.val * 2048 + r.val, by omega⟩) j) k := fun j k => by
    refine Eq.trans (b := V c main_v4 (ix3 ⟨t.val / 4, by omega⟩ j k)) ?_
      ((h.feats _ j k).trans (congrArg (fun b => a.feats (knownRow b j) k) hk))
    blk_ext [iblk0, p2]
  have e3 : ∀ k, iblk0 V c 3 t (ix3 0 r k) = a.skip ⟨t.val * 2048 + r.val, by omega⟩ k := fun k => by
    refine Eq.trans (b := V c main_v5 (ix3 ⟨t.val / 4, by omega⟩ ⟨t.val % 4 * 2048 + r.val, by omega⟩ k)) ?_
      ((h.skip _ _ k).trans (congrArg (a.skip · k) (hn _ _ _ _ _ rfl rfl)))
    blk_ext [iblk0, p3]
  have e4 : ∀ k, iblk0 V c 4 t (ix2 k o) = a.W1 o (Fin.castAdd 128 k) := fun k => by
    refine Eq.trans (b := V c main_v7 (ix2 k o)) ?_ (h.upper k o)
    blk_ext [iblk0, p4]
  have e5 : ∀ k, iblk0 V c 5 t (ix2 k o) = a.W1 o (Fin.natAdd 256 k) := fun k => by
    refine Eq.trans (b := V c main_v8 (ix2 k o)) ?_ (h.lower k o)
    blk_ext [iblk0, p5]
  unfold pointFirst blockFirst Input.first
  have ed : blockDist (iblk0 V c 0 t) (iblk0 V c 1 t) r = a.dist ⟨t.val * 2048 + r.val, by omega⟩ :=
    funext fun j => congrArg₂ dist2 (funext e0) (funext fun k => e1 k j)
  refine congrArg₂ _ (Finset.sum_congr rfl fun k _ => congrArg₂ _ ?_ (e4 k))
    (Finset.sum_congr rfl fun k _ => congrArg₂ _ (e3 k) (e5 k))
  exact congrArg₂ interpByMin ed (funext fun j => e2 j k)

/-- The rows the first pass leaves: the first layer. -/
theorem rows0 (h : Entry0 V c a) :
    (dat0 V c).arrAt 6 cfg0.N = fun i => a.first (unknownRow (i 0) (i 1)) (i 2) := by
  refine (dat0 V c).arrAt_eq_of_covers 6 _ (by decide +kernel) fun t hf y => ?_
  obtain ⟨-, -, -, -, -, -, p6⟩ := places0 t
  blk_simp
  rw [after0_6]
  obtain ⟨i, r, o, rfl⟩ : ∃ (i : Fin 1) (r : Fin 2048) (o : Fin 256), y = ix3 i r o := ⟨y 0, y 1, y 2, eq_ix3 y⟩
  obtain rfl : i = 0 := Subsingleton.elim _ _
  refine (outs0_rows V c t r o).trans ((pointFirst_eq h t r o).trans ?_)
  refine congrArg₂ a.first (Fin.ext ?_) (Fin.ext ?_)
  · show t.val * 2048 + r.val = ((win0_6.blk t).view.emb (ix3 0 r o) 0).val * 8192 + ((win0_6.blk t).view.emb (ix3 0 r o) 1).val
    blk_simp [p6]
    omega
  · blk_simp [p6]

/-- The column sums the first pass leaves. -/
theorem sums0 (h : Entry0 V c a) (o : Fin 256) :
    ((dat0 V c).arrAt 7 cfg0.N (ix2 (0 : Fin 8) o) : EReal) = ∑ n, a.first n o := by
  rw [(dat0 V c).arrAt_eq_of_after_last 7 t0_15 (by decide +kernel) (outsAt0 V c t0_15.val t0_15.isLt).2.1 fun j => by
    blk_simp
    rw [after0_7]]
  rw [Pipeline.eq_sum_fin_of_reset_step_apply_last (fun n hn (o : Fin 256) => (outsAt0 V c n hn).2.1 (ix2 0 o)) 16
    (fun _ => (0 : EReal)) _ (outs0_sum_start V c) (outs0_sum_step V c) (by decide) t0_15 rfl o]
  rw [zero_add]
  simp only [pointFirst_eq h]
  exact Fin.sum_mul_add_fin 16 2048 (fun n => a.first n o)

/-- The column sums of squares the first pass leaves. -/
theorem squares0 (h : Entry0 V c a) (o : Fin 256) :
    ((dat0 V c).arrAt 8 cfg0.N (ix2 (0 : Fin 8) o) : EReal) = ∑ n, a.first n o * a.first n o := by
  rw [(dat0 V c).arrAt_eq_of_after_last 8 t0_15 (by decide +kernel) (outsAt0 V c t0_15.val t0_15.isLt).2.2 fun j => by
    blk_simp
    rw [after0_8]]
  rw [Pipeline.eq_sum_fin_of_reset_step_apply_last (fun n hn (o : Fin 256) => (outsAt0 V c n hn).2.2 (ix2 0 o)) 16
    (fun _ => (0 : EReal)) _ (outs0_square_start V c) (outs0_square_step V c) (by decide) t0_15 rfl o]
  rw [zero_add]
  simp only [pointFirst_eq h]
  exact Fin.sum_mul_add_fin 16 2048 (fun n => a.first n o * a.first n o)

end Cert.Proof

end
-- ==== Proof.Point1.lean ====
/- The second and third passes of the kernel at one grid point: what their operations compute of the blocks they read, at
   each index. -/
module

public import proofs.«01_k».proof.Proof.Gen.KernelIdeal.Skeleton
public import proofs.«01_k».proof.Proof.Layers
public import Idealize.ShloMosaic.Lib.Pipeline.ValueKit

@[expose] public section

set_option maxRecDepth 16384

noncomputable section

namespace Cert.Proof

open Idealize.ShloMosaic Idealize.SL.Sem
open Cert.KernelIdeal Cert.KernelIdeal.Gen

/-- One entry normalised by the sums `s` and `q` of its column and of its column's squares, rectified. -/
def scaled (s q g b x : EReal) : EReal :=
  max ((x - s * perRow) * (Ideal.rsqrt (q * perRow - s * perRow * (s * perRow) + floor) * g) + b) 0

/-- With a column's own sums this is the normalisation by moments. -/
theorem scaled_sums (x : Fin 32768 → EReal) (g b : EReal) (i : Fin 32768) :
    scaled (∑ k, x k) (∑ k, x k * x k) g b (x i) = normByMoments x g b i := rfl

variable (s q g b : Vec Ideal S1x256 .f32) (x : Vec Ideal S8192x256 .f32)

/-- Third pass: the block written. -/
theorem pay21_at (r : Fin 8192) (o : Fin 256) :
    k2_pay1 s q x g b (ix2 r o) = scaled (s (ix2 0 o)) (q (ix2 0 o)) (g (ix2 0 o)) (b (ix2 0 o)) (x (ix2 r o)) := by
  unfold k2_pay1 scaled perRow floor
  pointwise

/-- Second pass: the block written. -/
theorem pay13b_at (w : Vec Ideal S256x256 .f32) (r : Fin 8192) (o : Fin 256) :
    k1_pay3 s q x g b w (ix2 r o)
      = ∑ c : Fin 256, scaled (s (ix2 0 c)) (q (ix2 0 c)) (g (ix2 0 c)) (b (ix2 0 c)) (x (ix2 r c)) * w (ix2 c o) := by
  unfold k1_pay3 scaled perRow floor
  pointwise

/-- Second pass: the running column sums. -/
theorem pay11b_at (y : FVec Ideal S8192x256 .f32) (v : Vec Ideal S1x256 .f32) (o : Fin 256) :
    k1_pay1 y v (ix2 0 o) = v (ix2 0 o) + ∑ r : Fin 8192, y (ix2 r o) := by
  unfold k1_pay1
  pointwise

/-- Second pass: the running column sums of squares. -/
theorem pay12b_at (y : FVec Ideal S8192x256 .f32) (v : Vec Ideal S1x256 .f32) (o : Fin 256) :
    k1_pay2 y v (ix2 0 o) = v (ix2 0 o) + ∑ r : Fin 8192, y (ix2 r o) * y (ix2 r o) := by
  unfold k1_pay2
  pointwise

end Cert.Proof

end
-- ==== Proof.Region1.lean ====
/- The second pass of the kernel over its whole grid: the arrays it leaves, of the arrays it starts from. -/
module

public import proofs.«01_k».proof.Proof.Point1
public import proofs.«01_k».proof.Proof.Rows
public import proofs.«01_k».proof.Proof.Gen.KernelIdeal.Frame

@[expose] public section

set_option maxRecDepth 16384

noncomputable section

namespace Cert.Proof

open Idealize.ShloMosaic Idealize.SL.Sem
open Cert.KernelIdeal Cert.KernelIdeal.Gen

variable (V : (c : Dev nD) → (b : Ref sig .tc) → Buf (Elt Ideal) ((c.tc : Thread nD τ).loc b)) (c : Dev nD)

/-- The entries of a point's block, normalised and rectified. -/
def pointScaled (t : Fin cfg1.N) (r : Fin 8192) (k : Fin 256) : EReal :=
  scaled (iblk1 V c 1 t (ix2 (0 : Fin 8) k)) (iblk1 V c 2 t (ix2 (0 : Fin 8) k)) (iblk1 V c 3 t (ix2 (0 : Fin 1) k))
    (iblk1 V c 4 t (ix2 (0 : Fin 1) k)) (iblk1 V c 0 t (ix2 r k))

/-- What the body computes at a point, at a row and a column of the block. -/
def pointSecond (t : Fin cfg1.N) (r : Fin 8192) (o : Fin 256) : EReal :=
  ∑ k : Fin 256, pointScaled V c t r k * iblk1 V c 5 t (ix2 k o)

/-- The body's product, at a row and a column. -/
theorem body1_at (t : Fin cfg1.N) (inb inb') (r : Fin 8192) (o : Fin 256) :
    k1_pay3 (View.ld (iblk1 V c 1 t) (Rect.unit (s := S8x256) ![0, 0] ![1, 256] inb))
        (View.ld (iblk1 V c 2 t) (Rect.unit (s := S8x256) ![0, 0] ![1, 256] inb')) (iblk1 V c 0 t) (iblk1 V c 3 t)
        (iblk1 V c 4 t) (iblk1 V c 5 t) (ix2 r o) = pointSecond V c t r o := by
  refine (pay13b_at _ _ _ _ _ _ r o).trans ?_
  unfold pointSecond pointScaled
  refine Finset.sum_congr rfl fun k _ => ?_
  rw [ld_row, ld_row]

/-- The block of rows a point leaves. -/
theorem outs1_rows (t : Fin cfg1.N) (r : Fin 8192) (o : Fin 256) :
    (outsAt1 V c t.val t.isLt).1 (ix2 r o) = pointSecond V c t r o := by
  by_cases h : t.val % 4 = 0
  · rw [outsAt1_A V c t h]
    frame_out
    exact body1_at V c t _ _ r o
  · rw [outsAt1_B V c t h]
    frame_out
    exact body1_at V c t _ _ r o

/-- The first point starts the column sums. -/
theorem outs1_sum_start (t : Fin cfg1.N) (h : t.val % 4 = 0) (o : Fin 256) :
    (outsAt1 V c t.val t.isLt).2.1 (ix2 0 o) = 0 + ∑ r, pointSecond V c t r o := by
  rw [outsAt1_A V c t h]
  frame_out
  refine (canon_row _ _ _ o).trans ((pay11b_at _ _ o).trans ?_)
  rw [readCov_row0]
  exact congrArg₂ _ (by unfold k1_pay4; pointwise) (Finset.sum_congr rfl fun r _ => body1_at V c t _ _ r o)

/-- Each later point adds to them. -/
theorem outs1_sum_step (t : Fin cfg1.N) (h : ¬ t.val % 4 = 0) (o : Fin 256) :
    (outsAt1 V c t.val t.isLt).2.1 (ix2 0 o)
      = (outsAt1 V c (t.val - 1) (Nat.lt_of_le_of_lt (Nat.sub_le _ _) t.isLt)).2.1 (ix2 0 o)
        + ∑ r, pointSecond V c t r o := by
  rw [outsAt1_B V c t h]
  frame_out
  refine (read_row _ _ _ _ _ o).trans ((pay11b_at _ _ o).trans ?_)
  rw [ld_row]
  exact congrArg₂ _ rfl (Finset.sum_congr rfl fun r _ => body1_at V c t _ _ r o)

/-- The first point starts the column sums of squares. -/
theorem outs1_square_start (t : Fin cfg1.N) (h : t.val % 4 = 0) (o : Fin 256) :
    (outsAt1 V c t.val t.isLt).2.2 (ix2 0 o) = 0 + ∑ r, pointSecond V c t r o * pointSecond V c t r o := by
  rw [outsAt1_A V c t h]
  frame_out
  refine (canon_row _ _ _ o).trans ((pay12b_at _ _ o).trans ?_)
  rw [readCov_row0]
  exact congrArg₂ _ (by unfold k1_pay5; pointwise)
    (Finset.sum_congr rfl fun r _ => congrArg₂ _ (body1_at V c t _ _ r o) (body1_at V c t _ _ r o))

/-- Each later point adds to them. -/
theorem outs1_square_step (t : Fin cfg1.N) (h : ¬ t.val % 4 = 0) (o : Fin 256) :
    (outsAt1 V c t.val t.isLt).2.2 (ix2 0 o)
      = (outsAt1 V c (t.val - 1) (Nat.lt_of_le_of_lt (Nat.sub_le _ _) t.isLt)).2.2 (ix2 0 o)
        + ∑ r, pointSecond V c t r o * pointSecond V c t r o := by
  rw [outsAt1_B V c t h]
  frame_out
  refine (read_row _ _ _ _ _ o).trans ((pay12b_at _ _ o).trans ?_)
  rw [ld_row]
  exact congrArg₂ _ rfl
    (Finset.sum_congr rfl fun r _ => congrArg₂ _ (body1_at V c t _ _ r o) (body1_at V c t _ _ r o))

/-- The arrays the second pass reads: the first layer, its column sums, and the arguments. -/
structure Entry1 (a : Input) : Prop where
  rows : ∀ n k, (V c main_v15 (ix2 n k) : EReal) = a.first n k
  sums : ∀ k, (V c main_v14_1 (ix2 (0 : Fin 8) k) : EReal) = ∑ n, a.first n k
  squares : ∀ k, (V c main_v14_2 (ix2 (0 : Fin 8) k) : EReal) = ∑ n, a.first n k * a.first n k
  scale : ∀ k, (V c main_v10 (ix2 (0 : Fin 1) k) : EReal) = a.g1 k
  shift : ∀ k, (V c main_v11 (ix2 (0 : Fin 1) k) : EReal) = a.b1 k
  weights : ∀ k o, (V c main_v9 (ix2 k o) : EReal) = a.W2 o k

/-- Where each point's blocks stand. -/
theorem places1 : ∀ t : Fin cfg1.N,
    win1_0.index t = ![t.val, 0] ∧ win1_1.index t = ![0, 0] ∧ win1_2.index t = ![0, 0] ∧ win1_3.index t = ![0, 0]
      ∧ win1_4.index t = ![0, 0] ∧ win1_5.index t = ![0, 0] ∧ win1_6.index t = ![t.val, 0] := by decide +kernel

/-- The second call has four grid points. -/
theorem points1 (t : Fin cfg1.N) : t.val < 4 := lt_of_lt_of_eq t.isLt N_1

variable {V c} {a : Input}

/-- A point computes the second layer at its rows. -/
theorem pointSecond_eq (h : Entry1 V c a) (t : Fin cfg1.N) (r : Fin 8192) (o : Fin 256) :
    pointSecond V c t r o = a.second ⟨t.val * 8192 + r.val, by have := points1 t; omega⟩ o := by
  have ht := points1 t
  obtain ⟨p0, p1, p2, p3, p4, p5, -⟩ := places1 t
  have e0 : ∀ k, iblk1 V c 0 t (ix2 r k) = a.first ⟨t.val * 8192 + r.val, by omega⟩ k := fun k => by
    refine Eq.trans (b := V c main_v15 (ix2 ⟨t.val * 8192 + r.val, by omega⟩ k)) ?_ (h.rows _ k)
    blk_ext [iblk1, p0]
  have e1 : ∀ k, iblk1 V c 1 t (ix2 (0 : Fin 8) k) = ∑ n, a.first n k := fun k => by
    refine Eq.trans (b := V c main_v14_1 (ix2 (0 : Fin 8) k)) ?_ (h.sums k)
    blk_ext [iblk1, p1]
  have e2 : ∀ k, iblk1 V c 2 t (ix2 (0 : Fin 8) k) = ∑ n, a.first n k * a.first n k := fun k => by
    refine Eq.trans (b := V c main_v14_2 (ix2 (0 : Fin 8) k)) ?_ (h.squares k)
    blk_ext [iblk1, p2]
  have e3 : ∀ k, iblk1 V c 3 t (ix2 (0 : Fin 1) k) = a.g1 k := fun k => by
    refine Eq.trans (b := V c main_v10 (ix2 (0 : Fin 1) k)) ?_ (h.scale k)
    blk_ext [iblk1, p3]
  have e4 : ∀ k, iblk1 V c 4 t (ix2 (0 : Fin 1) k) = a.b1 k := fun k => by
    refine Eq.trans (b := V c main_v11 (ix2 (0 : Fin 1) k)) ?_ (h.shift k)
    blk_ext [iblk1, p4]
  have e5 : ∀ k, iblk1 V c 5 t (ix2 k o) = a.W2 o k := fun k => by
    refine Eq.trans (b := V c main_v9 (ix2 k o)) ?_ (h.weights k o)
    blk_ext [iblk1, p5]
  unfold pointSecond Input.second
  refine Finset.sum_congr rfl fun k _ => congrArg₂ _ ?_ (e5 k)
  unfold pointScaled
  rw [e0 k, e1 k, e2 k, e3 k, e4 k]
  exact scaled_sums (fun n => a.first n k) _ _ _

/-- The rows the second pass leaves: the second layer. -/
theorem rows1 (h : Entry1 V c a) : (dat1 V c).arrAt 6 cfg1.N = fun i => a.second (i 0) (i 1) := by
  refine (dat1 V c).arrAt_eq_of_covers 6 _ (by decide +kernel) fun t hf y => ?_
  obtain ⟨-, -, -, -, -, -, p6⟩ := places1 t
  blk_simp
  rw [after1_6]
  obtain ⟨r, o, rfl⟩ : ∃ (r : Fin 8192) (o : Fin 256), y = ix2 r o := ⟨y 0, y 1, eq_ix2 y⟩
  refine (outs1_rows V c t r o).trans ((pointSecond_eq h t r o).trans ?_)
  refine congrArg₂ a.second (Fin.ext ?_) (Fin.ext ?_)
  · blk_simp [p6]
  · blk_simp [p6]

/-- The column sums the second pass leaves. -/
theorem sums1 (h : Entry1 V c a) (o : Fin 256) :
    ((dat1 V c).arrAt 7 cfg1.N (ix2 (0 : Fin 8) o) : EReal) = ∑ n, a.second n o := by
  rw [(dat1 V c).arrAt_eq_of_after_last 7 t1_3 (by decide +kernel) (outsAt1 V c t1_3.val t1_3.isLt).2.1 fun j => by
    blk_simp
    rw [after1_7]]
  rw [Pipeline.eq_sum_fin_of_reset_step_apply_last (fun n hn (o : Fin 256) => (outsAt1 V c n hn).2.1 (ix2 0 o)) 4
    (fun _ => (0 : EReal)) _ (outs1_sum_start V c) (outs1_sum_step V c) (by decide) t1_3 rfl o]
  rw [zero_add]
  simp only [pointSecond_eq h]
  exact Fin.sum_mul_add_fin 4 8192 (fun n => a.second n o)

/-- The column sums of squares the second pass leaves. -/
theorem squares1 (h : Entry1 V c a) (o : Fin 256) :
    ((dat1 V c).arrAt 8 cfg1.N (ix2 (0 : Fin 8) o) : EReal) = ∑ n, a.second n o * a.second n o := by
  rw [(dat1 V c).arrAt_eq_of_after_last 8 t1_3 (by decide +kernel) (outsAt1 V c t1_3.val t1_3.isLt).2.2 fun j => by
    blk_simp
    rw [after1_8]]
  rw [Pipeline.eq_sum_fin_of_reset_step_apply_last (fun n hn (o : Fin 256) => (outsAt1 V c n hn).2.2 (ix2 0 o)) 4
    (fun _ => (0 : EReal)) _ (outs1_square_start V c) (outs1_square_step V c) (by decide) t1_3 rfl o]
  rw [zero_add]
  simp only [pointSecond_eq h]
  exact Fin.sum_mul_add_fin 4 8192 (fun n => a.second n o * a.second n o)

end Cert.Proof

end
-- ==== Proof.Region2.lean ====
/- The third pass of the kernel over its whole grid: the array it leaves, of the arrays it starts from. -/
module

public import proofs.«01_k».proof.Proof.Point1
public import proofs.«01_k».proof.Proof.Rows
public import proofs.«01_k».proof.Proof.Gen.KernelIdeal.Frame

@[expose] public section

set_option maxRecDepth 16384

noncomputable section

namespace Cert.Proof

open Idealize.ShloMosaic Idealize.SL.Sem
open Cert.KernelIdeal Cert.KernelIdeal.Gen

variable (V : (c : Dev nD) → (b : Ref sig .tc) → Buf (Elt Ideal) ((c.tc : Thread nD τ).loc b)) (c : Dev nD)

/-- The arrays the third pass reads: the second layer, its column sums, and the arguments. -/
structure Entry2 (a : Input) : Prop where
  rows : ∀ n k, (V c main_v16_0 (ix2 n k) : EReal) = a.second n k
  sums : ∀ k, (V c main_v16_1 (ix2 (0 : Fin 8) k) : EReal) = ∑ n, a.second n k
  squares : ∀ k, (V c main_v16_2 (ix2 (0 : Fin 8) k) : EReal) = ∑ n, a.second n k * a.second n k
  scale : ∀ k, (V c main_v12 (ix2 (0 : Fin 1) k) : EReal) = a.g2 k
  shift : ∀ k, (V c main_v13 (ix2 (0 : Fin 1) k) : EReal) = a.b2 k

/-- Where each point's blocks stand. -/
theorem places2 : ∀ t : Fin cfg2.N,
    win2_0.index t = ![t.val, 0] ∧ win2_1.index t = ![0, 0] ∧ win2_2.index t = ![0, 0] ∧ win2_3.index t = ![0, 0]
      ∧ win2_4.index t = ![0, 0] ∧ win2_5.index t = ![t.val, 0] := by decide +kernel

/-- The third call has four grid points. -/
theorem points2 (t : Fin cfg2.N) : t.val < 4 := lt_of_lt_of_eq t.isLt N_2

/-- The block of rows a point leaves. -/
theorem outs2_rows (t : Fin cfg2.N) (r : Fin 8192) (o : Fin 256) :
    out2_5 (iblk2 V c 0 t) (iblk2 V c 1 t) (iblk2 V c 2 t) (iblk2 V c 3 t) (iblk2 V c 4 t) (ix2 r o)
      = scaled (iblk2 V c 1 t (ix2 (0 : Fin 8) o)) (iblk2 V c 2 t (ix2 (0 : Fin 8) o)) (iblk2 V c 3 t (ix2 (0 : Fin 1) o))
          (iblk2 V c 4 t (ix2 (0 : Fin 1) o)) (iblk2 V c 0 t (ix2 r o)) := by
  frame_out
  refine (pay21_at _ _ _ _ _ r o).trans ?_
  rw [ld_row, ld_row]

variable {V c} {a : Input}

/-- The rows the third pass leaves: the result. -/
theorem rows2 (h : Entry2 V c a) : (dat2 V c).arrAt 5 cfg2.N = fun i => a.result (i 0) (i 1) := by
  refine (dat2 V c).arrAt_eq_of_covers 5 _ (by decide +kernel) fun t hf y => ?_
  have ht := points2 t
  obtain ⟨p0, p1, p2, p3, p4, p5⟩ := places2 t
  blk_simp
  rw [after2_5]
  obtain ⟨r, o, rfl⟩ : ∃ (r : Fin 8192) (o : Fin 256), y = ix2 r o := ⟨y 0, y 1, eq_ix2 y⟩
  have e0 : iblk2 V c 0 t (ix2 r o) = a.second ⟨t.val * 8192 + r.val, by omega⟩ o := by
    refine Eq.trans (b := V c main_v16_0 (ix2 ⟨t.val * 8192 + r.val, by omega⟩ o)) ?_ (h.rows _ o)
    blk_ext [iblk2, p0]
  have e1 : iblk2 V c 1 t (ix2 (0 : Fin 8) o) = ∑ n, a.second n o := by
    refine Eq.trans (b := V c main_v16_1 (ix2 (0 : Fin 8) o)) ?_ (h.sums o)
    blk_ext [iblk2, p1]
  have e2 : iblk2 V c 2 t (ix2 (0 : Fin 8) o) = ∑ n, a.second n o * a.second n o := by
    refine Eq.trans (b := V c main_v16_2 (ix2 (0 : Fin 8) o)) ?_ (h.squares o)
    blk_ext [iblk2, p2]
  have e3 : iblk2 V c 3 t (ix2 (0 : Fin 1) o) = a.g2 o := by
    refine Eq.trans (b := V c main_v12 (ix2 (0 : Fin 1) o)) ?_ (h.scale o)
    blk_ext [iblk2, p3]
  have e4 : iblk2 V c 4 t (ix2 (0 : Fin 1) o) = a.b2 o := by
    refine Eq.trans (b := V c main_v13 (ix2 (0 : Fin 1) o)) ?_ (h.shift o)
    blk_ext [iblk2, p4]
  refine (outs2_rows V c t r o).trans ?_
  rw [e0, e1, e2, e3, e4]
  refine (scaled_sums (fun n => a.second n o) _ _ _).trans ?_
  show a.result _ _ = _
  refine congrArg₂ a.result (Fin.ext ?_) (Fin.ext ?_)
  · blk_simp [p5]
  · blk_simp [p5]

end Cert.Proof

end
-- ==== Proof.HostReads.lean ====
/- What the operations around the three passes do: the arrays each pass starts from, of the arguments and of what the
   pass before left. -/
module

public import proofs.«01_k».proof.Proof.Args
public import proofs.«01_k».proof.Proof.Region0
public import proofs.«01_k».proof.Proof.Region1
public import proofs.«01_k».proof.Proof.Region2
public import Idealize.ShloMosaic.Lib.Claim
public import Idealize.ShloMosaic.Lib.KernelVsHost

@[expose] public section

set_option maxRecDepth 16384

noncomputable section

namespace Cert.Proof

open Idealize.ShloMosaic Idealize.SL.Sem
open Cert.KernelIdeal Cert.KernelIdeal.Gen

variable (m : (ℓ : Loc nD τ sig) → Buf (Elt Ideal) ℓ) (ρ : Dev nD → PrngReg) (c : Dev nD)

/-- The kernel's arguments on a device. -/
def kernelInput : Input :=
  inputOf (m ((c.tc : Thread nD τ).loc main_arg0)) (m ((c.tc : Thread nD τ).loc main_arg2))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))

/-- The first call's coordinates of unknown points are the argument's, by batch element. -/
theorem read_v0 (b : Fin 4) (j : Fin 8192) (k : Fin 3) :
    (V3 m ρ c main_v0 (ix3 b j k) : EReal) = m ((c.tc : Thread nD τ).loc main_arg0) (ix2 (unknownRow b j) k) := by
  dsimp only [V3, W3, W2, W1, W0, V5, W5]
  entry_read
  pointwise
  rfl

/-- The known points' coordinates by batch element, coordinate first. -/
theorem transposed_at (x : Vec Ideal S8192x3 .f32) (b : Fin 4) (k : Fin 3) (j : Fin 2048) :
    transpose S4x3x2048 [0, 2, 1] (shapeCast S4x2048x3 x shapeCasts_S8192x3_S4x2048x3) transposes_S4x2048x3_S4x3x2048_0_2_1
      (ix3 b k j) = x (ix2 (knownRow b j) k) := by
  pointwise
  rfl

/-- The first call's coordinates of known points are the argument's, coordinate first. -/
theorem read_v3 (b : Fin 4) (k : Fin 3) (j : Fin 2048) :
    (V3 m ρ c main_v3 (ix3 b ⟨k.val, by omega⟩ j) : EReal) = m ((c.tc : Thread nD τ).loc main_arg2) (ix2 (knownRow b j) k) := by
  dsimp only [V3, W3, W2, W1, W0, V5, W5]
  entry_read
  change (pad S4x8x2048 ![0, 0, 0] ![0, 5, 0] ![0, 0, 0]
    (transpose S4x3x2048 [0, 2, 1] (shapeCast S4x2048x3 (m ((c.tc : Thread nD τ).loc main_arg2)) shapeCasts_S8192x3_S4x2048x3)
      transposes_S4x2048x3_S4x3x2048_0_2_1)
    _ pads_S4x3x2048_S4x8x2048_000_050_000 h_S_ (ix3 b ⟨k.val, by omega⟩ j) : EReal) = _
  refine (pad_apply_of_inside _ _ _ _ _ _ _ _ (ix3 b k j) fun a => by
    fin_cases a <;> simp).trans ?_
  exact transposed_at _ b k j

/-- The first call's features of known points are the argument's, by batch element. -/
theorem read_v4 (b : Fin 4) (j : Fin 2048) (k : Fin 256) :
    (V3 m ρ c main_v4 (ix3 b j k) : EReal) = m ((c.tc : Thread nD τ).loc main_arg5) (ix2 (knownRow b j) k) := by
  dsimp only [V3, W3, W2, W1, W0, V5, W5]
  entry_read
  pointwise
  rfl

/-- The first call's features of unknown points are the argument's, by batch element. -/
theorem read_v5 (b : Fin 4) (j : Fin 8192) (k : Fin 128) :
    (V3 m ρ c main_v5 (ix3 b j k) : EReal) = m ((c.tc : Thread nD τ).loc main_arg4) (ix2 (unknownRow b j) k) := by
  dsimp only [V3, W3, W2, W1, W0, V5, W5]
  entry_read
  pointwise
  rfl

/-- The first call's first block of weights is the first 256 columns of the first weight matrix, transposed. -/
theorem read_v7 (k o : Fin 256) :
    (V3 m ρ c main_v7 (ix2 k o) : EReal) = m ((c.tc : Thread nD τ).loc main_arg6) (ix2 o (Fin.castAdd 128 k)) := by
  dsimp only [V3, W3, W2, W1, W0, V5, W5]
  entry_read
  pointwise
  rfl

/-- Its second block of weights is the other 128 columns, transposed. -/
theorem read_v8 (k : Fin 128) (o : Fin 256) :
    (V3 m ρ c main_v8 (ix2 k o) : EReal) = m ((c.tc : Thread nD τ).loc main_arg6) (ix2 o (Fin.natAdd 256 k)) := by
  dsimp only [V3, W3, W2, W1, W0, V5, W5]
  entry_read
  pointwise
  rfl

/-- The second call's weights are the second weight matrix, transposed. -/
theorem read_v9 (k o : Fin 256) :
    (V3 m ρ c main_v9 (ix2 k o) : EReal) = m ((c.tc : Thread nD τ).loc main_arg9) (ix2 o k) := by
  dsimp only [V3, W3, W2, W1, W0, V5, W5]
  entry_read
  pointwise

/-- The second call's scales are the first layer's. -/
theorem read_v10 (k : Fin 256) :
    (V3 m ρ c main_v10 (ix2 (0 : Fin 1) k) : EReal) = m ((c.tc : Thread nD τ).loc main_arg7) (ix1 k) := by
  dsimp only [V3, W3, W2, W1, W0, V5, W5]
  entry_read
  pointwise

/-- The second call's shifts are the first layer's. -/
theorem read_v11 (k : Fin 256) :
    (V3 m ρ c main_v11 (ix2 (0 : Fin 1) k) : EReal) = m ((c.tc : Thread nD τ).loc main_arg8) (ix1 k) := by
  dsimp only [V3, W3, W2, W1, W0, V5, W5]
  entry_read
  pointwise

/-- The third call's scales are the second layer's. -/
theorem read_v12 (k : Fin 256) :
    (V3 m ρ c main_v12 (ix2 (0 : Fin 1) k) : EReal) = m ((c.tc : Thread nD τ).loc main_arg10) (ix1 k) := by
  dsimp only [V3, W3, W2, W1, W0, V5, W5]
  entry_read
  pointwise

/-- The third call's shifts are the second layer's. -/
theorem read_v13 (k : Fin 256) :
    (V3 m ρ c main_v13 (ix2 (0 : Fin 1) k) : EReal) = m ((c.tc : Thread nD τ).loc main_arg11) (ix1 k) := by
  dsimp only [V3, W3, W2, W1, W0, V5, W5]
  entry_read
  pointwise

/-- The second call's rows are the first call's, batch elements one after the other. -/
theorem read_v15 (n : Fin 32768) (k : Fin 256) :
    (V5 m ρ c main_v15 (ix2 n k) : EReal) = W4 m ρ c (Proc.devRef .tc main_v14_0) (ix3 (⟨n.val / 8192, by omega⟩ : Fin 4) (⟨n.val % 8192, by omega⟩ : Fin 8192) k) := by
  dsimp only [V3, W3, W2, W1, W0, V5, W5]
  entry_read
  pointwise

/-- The first pass starts from the arguments. -/
theorem entry0 : Entry0 (V3 m ρ) c (kernelInput m c) where
  unknown := read_v0 m ρ c
  known := read_v3 m ρ c
  feats := read_v4 m ρ c
  skip := read_v5 m ρ c
  upper := read_v7 m ρ c
  lower := read_v8 m ρ c

/-- The second pass starts from what the first left. -/
theorem entry1 : Entry1 (V5 m ρ) c (kernelInput m c) where
  rows n k := by
    rw [read_v15]
    rw [show W4 m ρ c (Proc.devRef .tc main_v14_0) = _ from (W4_arr m ρ c 6).trans (rows0 (entry0 m ρ c))]
    exact congrArg ((kernelInput m c).first · k) (Fin.ext (by show n.val / 8192 * 8192 + n.val % 8192 = n.val; omega))
  sums k := (congrFun ((W5_of m ρ c main_v14_1 (by decide)).trans (W4_arr m ρ c 7)) _).trans (sums0 (entry0 m ρ c) k)
  squares k := (congrFun ((W5_of m ρ c main_v14_2 (by decide)).trans (W4_arr m ρ c 8)) _).trans (squares0 (entry0 m ρ c) k)
  scale k := (congrFun ((W5_of m ρ c main_v10 (by decide)).trans (W4_of_ne m ρ c main_v10 (by decide +kernel))) _).trans (read_v10 m ρ c k)
  shift k := (congrFun ((W5_of m ρ c main_v11 (by decide)).trans (W4_of_ne m ρ c main_v11 (by decide +kernel))) _).trans (read_v11 m ρ c k)
  weights k o := (congrFun ((W5_of m ρ c main_v9 (by decide)).trans (W4_of_ne m ρ c main_v9 (by decide +kernel))) _).trans (read_v9 m ρ c k o)

/-- The third pass starts from what the second left. -/
theorem entry2 : Entry2 (V6 m ρ) c (kernelInput m c) where
  rows n k := congrFun ((W6_arr m ρ c 6).trans (rows1 (entry1 m ρ c))) (ix2 n k)
  sums k := (congrFun (W6_arr m ρ c 7) _).trans (sums1 (entry1 m ρ c) k)
  squares k := (congrFun (W6_arr m ρ c 8) _).trans (squares1 (entry1 m ρ c) k)
  scale k := (congrFun ((W6_of_ne m ρ c main_v12 (by decide +kernel)).trans ((W5_of m ρ c main_v12 (by decide)).trans
    (W4_of_ne m ρ c main_v12 (by decide +kernel)))) _).trans (read_v12 m ρ c k)
  shift k := (congrFun ((W6_of_ne m ρ c main_v13 (by decide +kernel)).trans ((W5_of m ρ c main_v13 (by decide)).trans
    (W4_of_ne m ρ c main_v13 (by decide +kernel)))) _).trans (read_v13 m ρ c k)

/-- What the kernel leaves in its result array. -/
theorem kernel_result : W7 m ρ c (Proc.devRef .tc main_v17) = fun i => (kernelInput m c).result (i 0) (i 1) :=
  (W7_arr m ρ c 5).trans (rows2 (entry2 m ρ c))

end Cert.Proof

end
-- ==== Proof.KernelRun.lean ====
/- The kernel's run: its result array ends at the kernel's arrangement of the computation, its arguments unchanged. -/
module

public import proofs.«01_k».proof.Proof.HostReads

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The type of machine states' resources. -/
local notation "𝕄" => MT nD τ sig Unit (Elt Ideal) ℕ (UR sig nD τ) ℕ

-- the launch's implicit arguments are found by unification through plain definitions
set_option backward.isDefEq.respectTransparency.types false in
/-- Every run of the kernel ends, nothing faulting, with the result array at the kernel's arrangement of the computation and
    every argument as it was. -/
theorem kernel_run : θ_run defs (onTc (τ := τ) (main (F := Ideal))) ⟨m, fun _ => 0, ρ⟩ (fun r => ∀ c : Dev nD,
      r.2.mem ((c.tc : Thread nD τ).loc main_v17) = (fun i => (kernelInput m c).result (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨(h c _ (mem_uc main_v17 (by decide))).trans (kernel_result m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.Proof

end
-- ==== Proof.Frames.lean ====
/- What each program leaves untouched: both printings of the kernel and the reference run to the end from any memory,
   with their argument arrays and every semaphore counter as they should be. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run

@[expose] public section

noncomputable section

namespace Cert.Proof

open Idealize.ShloMosaic Idealize.SL.Sem

/-- The shape conditions the precondition's printing relies on. -/
instance genericFacts : Cert.Pre_generic.Facts where
  shapeCasts_S32768x3_S4x8192x3 := by decide
  shapeCasts_S8192x3_S4x2048x3 := by decide
  bcast_S4x8192x3_S4x8192x1x3_0_1_3 := by decide
  bcast_S4x2048x3_S4x1x2048x3_0_2_3 := by decide
  bcast_S4x8192x1x3_S4x8192x2048x3_0_1_2_3 := by decide
  bcast_S4x1x2048x3_S4x8192x2048x3_0_1_2_3 := by decide
  reducesTo_S4x8192x2048x3_S4x8192x2048_d3 := by decide
  h_S_ := by decide
  sliceFits_S4x8192x2048_S4x8192x4 := by decide
  slices_S4x8192x4_S4x8192x3_0_0_0 := by decide
  slices_S4x8192x4_S4x8192x3_0_0_1 := by decide
  reducesTo_S4x8192x3_S_d0_1_2 := by decide
  bcast_S_S32768x128 := by decide
  reducesTo_S32768x128_S_d0_1 := by decide
  bcast_S_S8192x256 := by decide
  reducesTo_S8192x256_S_d0_1 := by decide
  bcast_S_S256x384 := by decide
  reducesTo_S256x384_S_d0_1 := by decide
  bcast_S_S256 := by decide
  reducesTo_S256_S_d0 := by decide
  bcast_S_S256x256 := by decide
  reducesTo_S256x256_S_d0_1 := by decide

/-- The kernel, on machine words, runs and keeps its arguments. -/
theorem kernel_frame : Cert.quiescent_Kernel := fun m ρ _ => Cert.Kernel.Gen.frame m ρ

/-- The kernel, on extended reals, runs and keeps its arguments. -/
theorem ideal_frame : Cert.quiescent_KernelIdeal := fun m ρ _ => Cert.KernelIdeal.Gen.frame m ρ

/-- The same under the precondition, which it does not need. -/
theorem ideal_frame_generic : Cert.quiescent_KernelIdeal_pre_generic := fun m ρ _ => Cert.KernelIdeal.Gen.frame m ρ

/-- The reference runs and keeps its arguments. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same under the precondition, which it does not need. -/
theorem reference_frame_generic : Cert.quiescent_ReferenceIdeal_pre_generic := fun m ρ _ =>
  reference_frame m ρ trivial

/-- The two printings of the kernel are the same program. -/
theorem preserves : Cert.preserves_Kernel_KernelIdeal := trivial

end Cert.Proof

end
-- ==== Proof.Select.lean ====
/- Sorting a finite family of distances: what a sort of the negated distances in descending order selects. -/
module

public import proofs.«01_k».proof.Proof.Layers
public import Idealize.ShloMosaic.Lib.SortFacts
public import Idealize.ShloMosaic.Lib.Pointwise

@[expose] public section

noncomputable section

namespace Cert.Proof

open Idealize.ShloMosaic

/-- The positions of a family in ascending order of its values, equal values in order of position. -/
def ascending {n : Nat} (d : Fin n → EReal) : Fin n → Fin n := sortedFrom fun j j' => decide (d j < d j')

/-- Comparing negated values in descending order is comparing the values in ascending order. -/
theorem greater_neg (a b : EReal) :
    (FloatOps.cmpfTotal (F := Ideal) (φ := .f32) .gt (-a) (-b) == 1#1) = decide (a < b) := by
  show (BitVec.ofBool (decide (-b < -a)) == 1#1) = decide (a < b)
  by_cases h : a < b <;> simp [h, EReal.neg_lt_neg_iff]

/-- Later positions never hold smaller values. -/
theorem ascending_le {n : Nat} (d : Fin n → EReal) {i j : Fin n} (h : i < j) :
    d (ascending d i) ≤ d (ascending d j) := by
  have e := sortedFrom_noInversion (fun j j' => decide (d j < d j')) (fun j j' => decide (d j < d j'))
    (fun a b e => by simp only [decide_eq_true_eq, decide_eq_false_iff_not, not_lt] at e ⊢; exact e.le)
    (fun a b e => e)
    (fun a b c e e' => by
      simp only [decide_eq_false_iff_not, not_lt] at e e' ⊢
      exact e'.trans e) i j h
  exact not_lt.mp (of_decide_eq_false e)

/-- When the first four values in ascending order increase strictly, the first three positions are the three nearest. -/
theorem ascending_nearest (d : Fin 2048 → EReal) (h01 : d (ascending d 0) < d (ascending d 1))
    (h12 : d (ascending d 1) < d (ascending d 2)) (h23 : d (ascending d 2) < d (ascending d 3)) :
    Nearest d (ascending d 0) (ascending d 1) (ascending d 2) where
  first := h01
  second := h12
  finite := lt_of_lt_of_le h23 le_top
  rest j ha hb hc := by
    obtain ⟨i, rfl⟩ := sortedFrom_surjective (fun j j' => decide (d j < d j')) j
    have h0 : i ≠ 0 := fun e => ha (congrArg _ e)
    have h1 : i ≠ 1 := fun e => hb (congrArg _ e)
    have h2 : i ≠ 2 := fun e => hc (congrArg _ e)
    rcases eq_or_lt_of_le (show (3 : Fin 2048) ≤ i by
      rw [Fin.le_def]
      have h0' : i.val ≠ 0 := fun e => h0 (Fin.ext e)
      have h1' : i.val ≠ 1 := fun e => h1 (Fin.ext e)
      have h2' : i.val ≠ 2 := fun e => h2 (Fin.ext e)
      show 3 ≤ i.val
      omega) with e | e
    · rw [← e]; exact h23
    · exact lt_of_lt_of_le h23 (ascending_le d e)

/-- An array of four batch elements, one row of known points for every unknown point. -/
abbrev Table : Shape := ⟨3, ![4, 8192, 2048]⟩

/-- Moving along the last axis of the table replaces the last coordinate. -/
theorem along_last (b : Fin 4) (m : Fin 8192) (i j : Fin 2048) :
    (Shape.Idx.along (s := Table) (ix3 b m i) 2 j : Table.Idx) = ix3 b m j := by
  funext a
  fin_cases a <;> rfl

/-- The order a descending sort of a row of negated distances puts its positions in. -/
theorem row_order (x : Table.Idx → EReal) (d : Fin 2048 → EReal) (b : Fin 4) (m : Fin 8192) (i : Fin 2048)
    (h : ∀ j, x (ix3 b m j) = -d j) :
    (sortedFrom fun k k' => FloatOps.cmpfTotal (F := Ideal) (φ := .f32) .gt
      (x (Shape.Idx.along (s := Table) (ix3 b m i) 2 k))
      (x (Shape.Idx.along (s := Table) (ix3 b m i) 2 k')) == 1#1) = ascending d := by
  refine congrArg sortedFrom (funext fun (k : Fin 2048) => funext fun (k' : Fin 2048) => ?_)
  rw [along_last b m i k, along_last b m i k', h, h]
  exact greater_neg _ _

/-- A sort of such a row along its last axis, and of an array sorted by it, read at a position. -/
theorem sorted_row {α : Type} (x : FVec Ideal Table .f32) (y : Table.Idx → α) (d : Fin 2048 → EReal) (b : Fin 4)
    (m : Fin 8192) (i : Fin 2048) (h : ∀ j, (x (ix3 b m j) : EReal) = -d j) :
    (Host.sort2 Table 2 (fun l r => FloatOps.cmpfTotal (F := Ideal) (φ := .f32) .gt l.1 r.1) x y).1 (ix3 b m i)
        = x (ix3 b m (ascending d i))
      ∧ (Host.sort2 Table 2 (fun l r => FloatOps.cmpfTotal (F := Ideal) (φ := .f32) .gt l.1 r.1) x y).2 (ix3 b m i)
        = y (ix3 b m (ascending d i)) := by
  have e := along_last b m i (ascending d i)
  have e' := congrFun (row_order x d b m i h) i
  unfold Host.sort2
  rw [dif_pos (show 2 < Table.rank by decide)]
  constructor
  · exact congrArg x ((congrArg (Shape.Idx.along (s := Table) (ix3 b m i) 2) e').trans e)
  · exact congrArg y ((congrArg (Shape.Idx.along (s := Table) (ix3 b m i) 2) e').trans e)

/-- The position in the whole sorted table of a position in its first columns. -/
theorem first_columns {n : Nat} (hn : n ≤ 2048) (b : Fin 4) (m : Fin 8192) (i : Fin n)
    (hs : Table.Slices (fun _ => 0) ⟨3, ![4, 8192, n]⟩) {α : Type} (x : Table.Idx → α) :
    extractStridedSlice ⟨3, ![4, 8192, n]⟩ (fun _ => 0) x hs (ix3 b m i)
      = x (ix3 b m ⟨i.val, lt_of_lt_of_le i.isLt hn⟩) := by
  have e : (fun a : Fin Table.rank => (⟨0 + (ix3 b m i (a.cast hs.1.symm)).val,
      Nat.lt_of_lt_of_le (Nat.add_lt_add_left (ix3 b m i (a.cast hs.1.symm)).isLt 0) (hs.2 a)⟩ : Fin (Table.size a)))
      = ix3 b m ⟨i.val, lt_of_lt_of_le i.isLt hn⟩ := by
    funext a
    fin_cases a <;> exact Fin.ext (Nat.zero_add _)
  exact congrArg x e

/-- Each entry's position in its row. -/
def positions : IVec Table 32 := fun i => if hd : 2 < Table.rank then iotaInDim Table 32 ⟨2, hd⟩ i else 0#32

/-- The values in the first columns of the sorted table. -/
theorem top_value {n : Nat} (hn : n ≤ 2048) (x : FVec Ideal Table .f32) (d : Fin 2048 → EReal) (b : Fin 4)
    (m : Fin 8192) (i : Fin n) (hs : Table.Slices (fun _ => 0) ⟨3, ![4, 8192, n]⟩)
    (h : ∀ j, (x (ix3 b m j) : EReal) = -d j) :
    ((Host.topK ⟨3, ![4, 8192, n]⟩ 2 (FloatOps.cmpfTotal .gt) x hs).1 (ix3 b m i) : EReal)
      = -d (ascending d ⟨i.val, lt_of_lt_of_le i.isLt hn⟩) :=
  ((first_columns hn b m i hs (Host.sort2 Table 2 (fun l r => FloatOps.cmpfTotal (F := Ideal) (φ := .f32) .gt l.1 r.1)
    x positions).1).trans (sorted_row x positions d b m _ h).1).trans (h _)

/-- The positions those values came from. -/
theorem top_index {n : Nat} (hn : n ≤ 2048) (x : FVec Ideal Table .f32) (d : Fin 2048 → EReal) (b : Fin 4)
    (m : Fin 8192) (i : Fin n) (hs : Table.Slices (fun _ => 0) ⟨3, ![4, 8192, n]⟩)
    (h : ∀ j, (x (ix3 b m j) : EReal) = -d j) :
    (Host.topK ⟨3, ![4, 8192, n]⟩ 2 (FloatOps.cmpfTotal .gt) x hs).2 (ix3 b m i)
      = BitVec.ofNat 32 (ascending d ⟨i.val, lt_of_lt_of_le i.isLt hn⟩).val :=
  (first_columns hn b m i hs (Host.sort2 Table 2 (fun l r => FloatOps.cmpfTotal (F := Ideal) (φ := .f32) .gt l.1 r.1)
    x positions).2).trans (sorted_row x positions d b m _ h).2

end Cert.Proof
-- ==== Proof.RefSelect.lean ====
/- The reference program's selection of the three nearest known points and of their features. -/
module

public import proofs.«01_k».proof.Proof.Args
public import proofs.«01_k».proof.Proof.Select
public import proofs.«01_k».proof.Proof.Gen.ReferenceIdeal.Read
public import Idealize.ShloMosaic.Lib.ReduceAll

@[expose] public section

noncomputable section

namespace Cert.Proof

open Idealize.ShloMosaic
open Cert.ReferenceIdeal Cert.ReferenceIdeal.Gen Cert.ReferenceIdeal.Read

/-- The place of an unknown point in its batch element. -/
def placeOf (n : Fin 32768) : Fin 8192 := ⟨n.val % 8192, by omega⟩

/-- Squared distances from an unknown point to the known points of its batch element. -/
def distOf (x0 : FVec Ideal ⟨2, ![32768, 3]⟩ .f32) (x2 : FVec Ideal ⟨2, ![8192, 3]⟩ .f32) (n : Fin 32768)
    (j : Fin 2048) : EReal :=
  dist2 (fun k => x0 (Idealize.ShloMosaic.ix2 n k)) fun k => x2 (Idealize.ShloMosaic.ix2 (knownRow (batchOf n) j) k)

/-- The three positions of least distance from an unknown point, in ascending order of distance. -/
def nearestOf (x0 : FVec Ideal ⟨2, ![32768, 3]⟩ .f32) (x2 : FVec Ideal ⟨2, ![8192, 3]⟩ .f32) (n : Fin 32768)
    (i : Fin 3) : Fin 2048 :=
  ascending (distOf x0 x2 n) ⟨i.val, by omega⟩

variable (x0 : FVec Ideal ⟨2, ![32768, 3]⟩ .f32) (x2 : FVec Ideal ⟨2, ![8192, 3]⟩ .f32)
  (x5 : FVec Ideal ⟨2, ![8192, 256]⟩ .f32) (n : Fin 32768)

/-- A small position read back from its word. -/
theorem small_word {p : ℕ} (h : p < 2048) : (BitVec.ofNat 32 p).toInt = (p : ℤ) := by
  rw [BitVec.toInt_eq_toNat_cond, BitVec.toNat_ofNat, Nat.mod_eq_of_lt (by omega), if_pos (by omega)]

/-- The coordinate of an unknown point that enters a distance. -/
theorem unknown_index (j : Fin 2048) (k : Fin 3) :
    idx_main_v0 (idx_main_v3 (idx_main_v5 (idx_main_v9 (Idealize.ShloMosaic.ix3 (batchOf n) (placeOf n) j) k)))
      = Idealize.ShloMosaic.ix2 n k := by
  funext a
  have hk := k.isLt
  match a with
  | ⟨0, _⟩ =>
    refine Fin.ext ?_
    show ((n.val / 8192 * 8192 + n.val % 8192) * 3 + k.val) / 3 = n.val
    omega
  | ⟨1, _⟩ =>
    refine Fin.ext ?_
    show ((n.val / 8192 * 8192 + n.val % 8192) * 3 + k.val) % 3 = k.val
    omega

/-- The coordinate of a known point that enters a distance. -/
theorem known_index (j : Fin 2048) (k : Fin 3) :
    idx_main_v1 (idx_main_v4 (idx_main_v6 (idx_main_v9 (Idealize.ShloMosaic.ix3 (batchOf n) (placeOf n) j) k)))
      = Idealize.ShloMosaic.ix2 (knownRow (batchOf n) j) k := by
  funext a
  have hk := k.isLt
  match a with
  | ⟨0, _⟩ =>
    refine Fin.ext ?_
    show ((n.val / 8192 * 2048 + j.val) * 3 + k.val) / 3 = n.val / 8192 * 2048 + j.val
    omega
  | ⟨1, _⟩ =>
    refine Fin.ext ?_
    show ((n.val / 8192 * 2048 + j.val) * 3 + k.val) % 3 = k.val
    omega

/-- The table the reference sorts holds the negated squared distances. -/
theorem neg_dist (j : Fin 2048) :
    (val_main_v10 (F := Ideal) x0 x2 (Idealize.ShloMosaic.ix3 (batchOf n) (placeOf n) j) : EReal) = -distOf x0 x2 n j := by
  rw [val_main_v10_apply, val_main_v9_apply]
  simp only [val_main_v8_apply, val_main_v7_apply, val_main_v5_apply, val_main_v6_apply, val_main_v3_apply,
    val_main_v4_apply, val_main_v0_apply, val_main_v1_apply, unknown_index, known_index, val_main_cst_apply,
    Fin.sum_univ_three]
  show -(Ideal.ofBits .f32 0x00000000#32 + _) = _
  rw [show Ideal.ofBits .f32 0x00000000#32 = 0 by simp [Ideal.ofBits, Ideal.ieee], zero_add]
  rfl

/-- The positions the reference selects. -/
theorem index_at (i : Fin 3) :
    val_main_indices (F := Ideal) x0 x2 (Idealize.ShloMosaic.ix3 (batchOf n) (placeOf n) i)
      = BitVec.ofNat 32 (nearestOf x0 x2 n i).val :=
  top_index (n := 3) (by omega) (val_main_v10 (F := Ideal) x0 x2) (distOf x0 x2 n) (batchOf n) (placeOf n) i _
    (neg_dist x0 x2 n)

/-- The values it selects. -/
theorem value_at (i : Fin 3) :
    (val_main_values (F := Ideal) x0 x2 (Idealize.ShloMosaic.ix3 (batchOf n) (placeOf n) i) : EReal)
      = -distOf x0 x2 n (nearestOf x0 x2 n i) :=
  top_value (n := 3) (by omega) (val_main_v10 (F := Ideal) x0 x2) (distOf x0 x2 n) (batchOf n) (placeOf n) i _
    (neg_dist x0 x2 n)

/-- A selected position, after the wrap of negative ones. -/
theorem wrapped_at (i : Fin 3) :
    val_main_call0_v4 (F := Ideal) x0 x2 (Idealize.ShloMosaic.ix3 (batchOf n) (placeOf n) i)
      = BitVec.ofNat 32 (nearestOf x0 x2 n i).val := by
  have hlt : (nearestOf x0 x2 n i).val < 2048 := (nearestOf x0 x2 n i).isLt
  rw [val_main_call0_v4_apply, val_main_call0_v1_apply, index_at]
  generalize (nearestOf x0 x2 n i).val = p at hlt
  rw [val_main_call0_v0_apply, val_main_call0_c_apply]
  have e : IntOp.cmpi .slt (BitVec.ofNat 32 p) 0#32 = 0#1 := by
    show BitVec.ofBool (BitVec.slt (BitVec.ofNat 32 p) 0#32) = 0#1
    rw [BitVec.slt, small_word hlt, decide_eq_false (by simp)]
    rfl
  rw [e]
  rfl

/-- A place in the table of selected positions, with its unit axis. -/
theorem unit_index (i : S4x8192x3x1.Idx) :
    ∃ (n : Fin 32768) (k : Fin 3), idx_main_call0_v5 i = Idealize.ShloMosaic.ix3 (batchOf n) (placeOf n) k := by
  have h0 : (i 0).val < 4 := (i 0).isLt
  have h1 : (i 1).val < 8192 := (i 1).isLt
  refine ⟨⟨(i 0).val * 8192 + (i 1).val, by omega⟩, ⟨(i 2).val, (i 2).isLt⟩, ?_⟩
  funext a
  match a with
  | ⟨0, _⟩ =>
    refine Fin.ext ?_
    show (i 0).val = ((i 0).val * 8192 + (i 1).val) / 8192
    omega
  | ⟨1, _⟩ =>
    refine Fin.ext ?_
    show (i 1).val = ((i 0).val * 8192 + (i 1).val) % 8192
    omega
  | ⟨2, _⟩ => rfl

/-- Every selected position is in range, so nothing is masked. -/
theorem mask_at (i : S4x8192x3.Idx) : val_main_call0_v12 (F := Ideal) x0 x2 i = 1#1 := by
  unfold val_main_call0_v12
  refine Host.reduce_andi_one _ _ _ _ _ rfl fun j => ?_
  obtain ⟨n, k, e⟩ := unit_index j
  rw [val_main_call0_v11_apply, val_main_call0_v7_apply, val_main_call0_v10_apply, val_main_call0_v5_apply, e, wrapped_at,
    val_main_call0_v6_apply, val_main_call0_v9_apply, val_main_call0_v8_apply, val_main_call0_c_2_apply,
    val_main_call0_c_1_apply]
  have hlt : (nearestOf x0 x2 n k).val < 2048 := (nearestOf x0 x2 n k).isLt
  generalize (nearestOf x0 x2 n k).val = p at hlt
  have e1 : IntOp.cmpi .sge (BitVec.ofNat 32 p) 0#32 = 1#1 := by
    show BitVec.ofBool (BitVec.sle 0#32 (BitVec.ofNat 32 p)) = 1#1
    rw [BitVec.sle, small_word hlt, decide_eq_true (by simp)]
    rfl
  have e2 : IntOp.cmpi .sle (BitVec.ofNat 32 p) 2047#32 = 1#1 := by
    show BitVec.ofBool (BitVec.sle (BitVec.ofNat 32 p) 2047#32) = 1#1
    have e : (2047#32).toInt = 2047 := by decide
    rw [BitVec.sle, small_word hlt, e, decide_eq_true (show (p : ℤ) ≤ 2047 by omega)]
    rfl
  rw [e1, e2]
  rfl

end Cert.Proof
-- ==== Proof.RefInterp.lean ====
/- The reference program's interpolation: its weights, the features it takes, and its first layer's operand. -/
module

public import proofs.«01_k».proof.Proof.RefSelect

@[expose] public section

set_option maxRecDepth 16384

noncomputable section

namespace Cert.Proof

open Idealize.ShloMosaic
open Cert.ReferenceIdeal Cert.ReferenceIdeal.Gen Cert.ReferenceIdeal.Read

variable (x0 : FVec Ideal ⟨2, ![32768, 3]⟩ .f32) (x2 : FVec Ideal ⟨2, ![8192, 3]⟩ .f32)
  (x4 : FVec Ideal ⟨2, ![32768, 128]⟩ .f32) (x5 : FVec Ideal ⟨2, ![8192, 256]⟩ .f32) (n : Fin 32768)

/-- The word of zero. -/
theorem zero_word : Ideal.ofBits .f32 0x00000000#32 = 0 := by simp [Ideal.ofBits, Ideal.ieee]

/-- The word of one. -/
theorem one_word : Ideal.ofBits .f32 0x3F800000#32 = 1 := by
  simp [Ideal.ofBits, Ideal.ieee, -EReal.coe_mul]; norm_num

/-- The reciprocal distances. -/
theorem recip_at (i : Fin 3) :
    (val_main_v18 (F := Ideal) x0 x2 (Idealize.ShloMosaic.ix3 (batchOf n) (placeOf n) i) : EReal)
      = recip (distOf x0 x2 n (nearestOf x0 x2 n i)) := by
  rw [val_main_v18_apply, val_main_v16_apply, val_main_v14_apply, val_main_v13_apply, val_main_v11_apply, value_at,
    val_main_v12_apply, val_main_cst_0_apply, val_main_v15_apply, val_main_cst_1_apply, val_main_v17_apply,
    val_main_cst_2_apply]
  show Ideal.div (Ideal.ofBits .f32 0x3F800000#32) (Ideal.sqrt (max (- -distOf x0 x2 n (nearestOf x0 x2 n i))
    (Ideal.ofBits .f32 0x00000000#32)) + tiny) = _
  rw [one_word, zero_word, neg_neg]
  rfl

/-- Their sum. -/
theorem total_at :
    (val_main_v19 (F := Ideal) x0 x2 (Idealize.ShloMosaic.ix2 (batchOf n) (placeOf n)) : EReal)
      = ∑ l, recip (distOf x0 x2 n (nearestOf x0 x2 n l)) := by
  rw [val_main_v19_apply, val_main_cst_3_apply]
  show Ideal.ofBits .f32 0x00000000#32 + _ = _
  rw [zero_word, zero_add]
  refine Finset.sum_congr rfl fun l _ => ?_
  rw [← recip_at]
  exact congrArg _ (eq_ix3 _)

/-- The normalised weights. -/
theorem weight_at (i : Fin 3) :
    (val_main_v22 (F := Ideal) x0 x2 (Idealize.ShloMosaic.ix3 (batchOf n) (placeOf n) i) : EReal)
      = Ideal.div (recip (distOf x0 x2 n (nearestOf x0 x2 n i)))
          (∑ l, recip (distOf x0 x2 n (nearestOf x0 x2 n l))) := by
  rw [val_main_v22_apply, recip_at, val_main_v21_apply, val_main_v20_apply,
    show idx_main_v20 (idx_main_v21 (Idealize.ShloMosaic.ix3 (batchOf n) (placeOf n) i))
      = Idealize.ShloMosaic.ix2 (batchOf n) (placeOf n) from eq_ix2 _, total_at]
  rfl

/-- The place in the table of positions that a taken feature's position stands at. -/
abbrev startIndex (j : S4x8192x3x256.Idx) : S4x8192x3x1.Idx := fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨0, Nat.one_pos⟩

/-- The gather read at a place: the operand's row at the position the table holds, clamped into range. -/
theorem gather_at {α : Type} (x : S4x2048x256.Idx → α) (idx : IVec S4x8192x3x1 32) (j : S4x8192x3x256.Idx) :
    Host.gather gather_S4x2048x256_S4x8192x3x1_S4x8192x3x256_3_1_0_0_1_3_11256 x idx j
      = x (Idealize.ShloMosaic.ix3 ⟨(j 0).val, (j 0).isLt⟩ ⟨min (idx (startIndex j)).toInt.toNat (2048 - 1), by omega⟩
          ⟨(j 3).val, (j 3).isLt⟩) := by
  unfold Host.gather
  refine congrArg x (funext fun a => Fin.ext ?_)
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  generalize hd : gather_S4x2048x256_S4x8192x3x1_S4x8192x3x256_3_1_0_0_1_3_11256 = d
  show d.start j idx a + d.batchCoord j a + d.offCoord j a = _
  rcases h012 with rfl | rfl | rfl
  · rw [GatherDims.start_batching _ _ _ _ (by subst hd; exact List.mem_singleton.mpr rfl),
      GatherDims.offCoord_eq_zero _ _ _
        (fun h => ((GatherDims.mem_sKept _ _).mp h).2 (by subst hd; exact List.mem_singleton.mpr rfl))]
    have e : d.batchCoord j 0 = (j 0).val := by
      unfold GatherDims.batchCoord
      rw [dif_pos (by subst hd; exact List.mem_singleton.mpr rfl)]
      subst hd
      rfl
    rw [e, Nat.zero_add, Nat.add_zero]
    rfl
  · rw [GatherDims.batchCoord_eq_zero _ _ _ (fun h => by subst hd; exact absurd (List.mem_singleton.mp h) (by decide)),
      GatherDims.offCoord_eq_zero _ _ _
        (fun h => ((GatherDims.mem_sKept _ _).mp h).1 (by subst hd; exact List.mem_singleton.mpr rfl))]
    have hm : (1 : Fin S4x2048x256.rank) ∈ d.startIndexMap := by subst hd; exact List.mem_singleton.mpr rfl
    have hsi : d.siIdx j ⟨List.idxOf (1 : Fin S4x2048x256.rank) d.startIndexMap, List.idxOf_lt_length_iff.2 hm⟩
        = startIndex j := by
      subst hd
      funext b
      refine Fin.ext ?_
      match b with
      | ⟨0, _⟩ => rfl
      | ⟨1, _⟩ => rfl
      | ⟨2, _⟩ => rfl
      | ⟨3, _⟩ => rfl
    have hs : d.sliceSizes 1 = 1 := by subst hd; rfl
    have e : d.start j idx 1 = min (idx (startIndex j)).toInt.toNat (2048 - 1) := by
      unfold GatherDims.start
      rw [dif_pos hm, hsi, hs]
      rfl
    rw [e]
    rfl
  · rw [GatherDims.batchCoord_eq_zero _ _ _ (fun h => by subst hd; exact absurd (List.mem_singleton.mp h) (by decide))]
    have e : d.start j idx 2 = 0 := by
      unfold GatherDims.start
      exact dif_neg (fun h => by subst hd; exact absurd (List.mem_singleton.mp h) (by decide))
    rw [e, Nat.add_zero, Nat.zero_add]
    subst hd
    rfl

/-- The place of feature `c` of the `k`-th nearest point. -/
theorem taken_index (c : Fin 256) (k : Fin 3) :
    idx_main_call0_v5 (startIndex (idx_main_v27 (Idealize.ShloMosaic.ix3 (batchOf n) (placeOf n) c) k))
      = Idealize.ShloMosaic.ix3 (batchOf n) (placeOf n) k := eq_ix3 _

/-- The features taken. -/
theorem taken_at (c : Fin 256) (k : Fin 3) :
    (val_main_v23 (F := Ideal) x0 x2 x5 (idx_main_v27 (Idealize.ShloMosaic.ix3 (batchOf n) (placeOf n) c) k) : EReal)
      = x5 (Idealize.ShloMosaic.ix2 (knownRow (batchOf n) (nearestOf x0 x2 n k)) c) := by
  have hi : val_main_call0_v5 (F := Ideal) x0 x2
      (startIndex (idx_main_v27 (Idealize.ShloMosaic.ix3 (batchOf n) (placeOf n) c) k))
        = BitVec.ofNat 32 (nearestOf x0 x2 n k).val := by
    rw [val_main_call0_v5_apply, taken_index, wrapped_at]
  have hlt : (nearestOf x0 x2 n k).val < 2048 := (nearestOf x0 x2 n k).isLt
  have e : min (val_main_call0_v5 (F := Ideal) x0 x2
      (startIndex (idx_main_v27 (Idealize.ShloMosaic.ix3 (batchOf n) (placeOf n) c) k))).toInt.toNat (2048 - 1)
        = (nearestOf x0 x2 n k).val := by
    rw [hi, small_word hlt]
    omega
  rw [val_main_v23_apply, val_main_call0_v14_apply, mask_at, ValueIdx.select_one]
  unfold val_main_call0_v13
  refine (gather_at _ _ _).trans ?_
  generalize val_main_call0_v5 (F := Ideal) x0 x2 = w at e ⊢
  rw [val_main_v2_apply]
  refine congrArg x5 ?_
  funext a
  have hc := c.isLt
  match a with
  | ⟨0, _⟩ =>
    refine Fin.ext ?_
    show ((n.val / 8192 * 2048 + min (w (startIndex (idx_main_v27 (Idealize.ShloMosaic.ix3 (batchOf n) (placeOf n) c) k))).toInt.toNat (2048 - 1)) * 256 + c.val) / 256
      = n.val / 8192 * 2048 + (nearestOf x0 x2 n k).val
    rw [e]
    omega
  | ⟨1, _⟩ =>
    refine Fin.ext ?_
    show ((n.val / 8192 * 2048 + min (w (startIndex (idx_main_v27 (Idealize.ShloMosaic.ix3 (batchOf n) (placeOf n) c) k))).toInt.toNat (2048 - 1)) * 256 + c.val) % 256
      = c.val
    omega

/-- The interpolated features. -/
theorem interp_at (c : Fin 256) :
    (val_main_v28 (F := Ideal) x0 x2 x5 (Idealize.ShloMosaic.ix2 n c) : EReal)
      = interpAt (distOf x0 x2 n) (fun j => x5 (Idealize.ShloMosaic.ix2 (knownRow (batchOf n) j) c)) (nearestOf x0 x2 n) := by
  have e : idx_main_v28 (Idealize.ShloMosaic.ix2 n c) = Idealize.ShloMosaic.ix3 (batchOf n) (placeOf n) c := by
    funext a
    have hc := c.isLt
    have hn := n.isLt
    match a with
    | ⟨0, _⟩ =>
      refine Fin.ext ?_
      show (n.val * 256 + c.val) / 2097152 = n.val / 8192
      omega
    | ⟨1, _⟩ =>
      refine Fin.ext ?_
      show (n.val * 256 + c.val) / 256 % 8192 = n.val % 8192
      omega
    | ⟨2, _⟩ =>
      refine Fin.ext ?_
      show (n.val * 256 + c.val) % 256 = c.val
      omega
  rw [val_main_v28_apply, e, val_main_v27_apply, val_main_cst_4_apply]
  show Ideal.ofBits .f32 0x00000000#32 + _ = _
  rw [zero_word, zero_add]
  refine Finset.sum_congr rfl fun k _ => ?_
  rw [val_main_v26_apply, taken_at, val_main_v25_apply, val_main_v24_apply,
    show idx_main_v24 (idx_main_v25 (idx_main_v27 (Idealize.ShloMosaic.ix3 (batchOf n) (placeOf n) c) k))
      = Idealize.ShloMosaic.ix3 (batchOf n) (placeOf n) k from eq_ix3 _, weight_at]
  rfl

/-- The first layer's operand: the interpolated features, then the skipped ones. -/
theorem operand_at (a : Input) (hd : a.dist n = distOf x0 x2 n)
    (hf : ∀ c, a.feat n c = fun j => x5 (Idealize.ShloMosaic.ix2 (knownRow (batchOf n) j) c))
    (hs : ∀ c, a.skip n c = x4 (Idealize.ShloMosaic.ix2 n c)) (c : Fin 384) :
    (val_main_v29 (F := Ideal) x0 x2 x4 x5 (Idealize.ShloMosaic.ix2 n c) : EReal) = a.joined (nearestOf x0 x2) n c := by
  unfold val_main_v29 Input.joined
  by_cases h : c.val < 256
  · rw [dif_pos h, hd, hf, ← interp_at]
    exact concatenate_pair_apply_left (t := S32768x384) 1 (val_main_v28 (F := Ideal) x0 x2 x5) x4
      concatenates_S32768x256_S32768x128_S32768x384_d1 (Idealize.ShloMosaic.ix2 n c) rfl (Idealize.ShloMosaic.ix2 n ⟨c.val, h⟩) fun b => by
      match b with
      | ⟨0, _⟩ => rfl
      | ⟨1, _⟩ => rfl
  · rw [dif_neg h, hs]
    exact concatenate_pair_apply_right (t := S32768x384) 1 (val_main_v28 (F := Ideal) x0 x2 x5) x4
      concatenates_S32768x256_S32768x128_S32768x384_d1 (Idealize.ShloMosaic.ix2 n c) rfl rfl (Idealize.ShloMosaic.ix2 n ⟨c.val - 256, by omega⟩)
      (fun b hb => by
        match b with
        | ⟨0, _⟩ => rfl
        | ⟨1, _⟩ => exact absurd rfl hb)
      (show c.val - 256 + 256 = c.val by omega)

end Cert.Proof
-- ==== Proof.RefLayers.lean ====
/- The reference program's two layers: products, normalisations over all the rows, and the result. -/
module

public import proofs.«01_k».proof.Proof.RefInterp

@[expose] public section

set_option maxRecDepth 16384

noncomputable section

namespace Cert.Proof

open Idealize.ShloMosaic
open Cert.ReferenceIdeal Cert.ReferenceIdeal.Gen Cert.ReferenceIdeal.Read

variable (x0 : FVec Ideal ⟨2, ![32768, 3]⟩ .f32) (x2 : FVec Ideal ⟨2, ![8192, 3]⟩ .f32)
  (x4 : FVec Ideal ⟨2, ![32768, 128]⟩ .f32) (x5 : FVec Ideal ⟨2, ![8192, 256]⟩ .f32)
  (x6 : FVec Ideal ⟨2, ![256, 384]⟩ .f32) (x7 x8 : FVec Ideal ⟨1, ![256]⟩ .f32)
  (x9 : FVec Ideal ⟨2, ![256, 256]⟩ .f32) (x10 x11 : FVec Ideal ⟨1, ![256]⟩ .f32)

/-- The reference's first product. -/
theorem first_at (n : Fin 32768) (o : Fin 256) :
    (val_main_v31 (F := Ideal) x0 x2 x4 x5 x6 (Idealize.ShloMosaic.ix2 n o) : EReal)
      = (inputOf x0 x2 x4 x5 x6 x7 x8 x9 x10 x11).firstRef (nearestOf x0 x2) n o := by
  rw [val_main_v31_apply]
  refine Finset.sum_congr rfl fun c _ => ?_
  rw [show lidx_main_v31 (Idealize.ShloMosaic.ix2 n o) c = Idealize.ShloMosaic.ix2 n c from eq_ix2 _, val_main_v30_apply,
    show idx_main_v30 (ridx_main_v31 (Idealize.ShloMosaic.ix2 n o) c) = Idealize.ShloMosaic.ix2 o c from eq_ix2 _,
    operand_at x0 x2 x4 x5 n (inputOf x0 x2 x4 x5 x6 x7 x8 x9 x10 x11) rfl (fun _ => rfl) (fun _ => rfl) c]
  rfl

/-- The mean of a column of the first product. -/
theorem first_mean_at (o : Fin 256) :
    (val_main_v35 (F := Ideal) x0 x2 x4 x5 x6 (Idealize.ShloMosaic.ix2 0 o) : EReal)
      = mean fun m => (inputOf x0 x2 x4 x5 x6 x7 x8 x9 x10 x11).firstRef (nearestOf x0 x2) m o := by
  rw [val_main_v35_apply, val_main_v33_apply, val_main_v32_apply, val_main_cst_5_apply,
    val_main_v34_apply, val_main_cst_6_apply]
  show Ideal.div (Ideal.ofBits .f32 0x00000000#32 + _) rowCount = _
  rw [zero_word, zero_add]
  refine congrArg (Ideal.div · rowCount) (Finset.sum_congr rfl fun m _ => ?_)
  rw [show idx_main_v32 (idx_main_v33 (Idealize.ShloMosaic.ix2 0 o)) m = Idealize.ShloMosaic.ix2 m o from eq_ix2 _]
  exact first_at x0 x2 x4 x5 x6 x7 x8 x9 x10 x11 m o

/-- Its mean squared deviation. -/
theorem first_variance_at (o : Fin 256) :
    (val_main_v42 (F := Ideal) x0 x2 x4 x5 x6 (Idealize.ShloMosaic.ix2 0 o) : EReal)
      = variance fun m => (inputOf x0 x2 x4 x5 x6 x7 x8 x9 x10 x11).firstRef (nearestOf x0 x2) m o := by
  rw [val_main_v42_apply, val_main_v40_apply, val_main_v39_apply, val_main_cst_7_apply,
    val_main_v41_apply, val_main_cst_8_apply]
  show Ideal.div (Ideal.ofBits .f32 0x00000000#32 + _) rowCount = _
  rw [zero_word, zero_add]
  refine congrArg (Ideal.div · rowCount) (Finset.sum_congr rfl fun m _ => ?_)
  rw [show idx_main_v39 (idx_main_v40 (Idealize.ShloMosaic.ix2 0 o)) m = Idealize.ShloMosaic.ix2 m o from eq_ix2 _,
    val_main_v38_apply, val_main_v37_apply, val_main_v36_apply,
    show idx_main_v36 (Idealize.ShloMosaic.ix2 m o) = Idealize.ShloMosaic.ix2 0 o from eq_ix2 _,
    first_mean_at x0 x2 x4 x5 x6 x7 x8 x9 x10 x11, first_at x0 x2 x4 x5 x6 x7 x8 x9 x10 x11]
  rfl

/-- The first product, normalised, scaled, shifted and rectified. -/
theorem first_norm_at (n : Fin 32768) (o : Fin 256) :
    (val_main_v56 (F := Ideal) x0 x2 x4 x5 x6 x7 x8 (Idealize.ShloMosaic.ix2 n o) : EReal)
      = normByDeviation (fun m => (inputOf x0 x2 x4 x5 x6 x7 x8 x9 x10 x11).firstRef (nearestOf x0 x2) m o) ((inputOf x0 x2 x4 x5 x6 x7 x8 x9 x10 x11).g1 o) ((inputOf x0 x2 x4 x5 x6 x7 x8 x9 x10 x11).b1 o) n := by
  rw [val_main_v56_apply, val_main_v55_apply, val_main_v52_apply, val_main_v49_apply, val_main_v44_apply,
    val_main_v43_apply, val_main_v48_apply, val_main_v51_apply, val_main_v50_apply, val_main_v54_apply,
    val_main_v53_apply, val_main_call1_v0_apply, val_main_call1_cst_apply,
    show idx_main_v43 (Idealize.ShloMosaic.ix2 n o) = Idealize.ShloMosaic.ix2 0 o from eq_ix2 _,
    show idx_main_v48 (Idealize.ShloMosaic.ix2 n o) = Idealize.ShloMosaic.ix2 0 o from eq_ix2 _,
    val_main_v47_apply, val_main_v46_apply, val_main_v45_apply, val_main_cst_9_apply,
    first_mean_at x0 x2 x4 x5 x6 x7 x8 x9 x10 x11, first_variance_at x0 x2 x4 x5 x6 x7 x8 x9 x10 x11,
    first_at x0 x2 x4 x5 x6 x7 x8 x9 x10 x11,
    show idx_main_v50 (idx_main_v51 (Idealize.ShloMosaic.ix2 n o)) = Idealize.ShloMosaic.ix1 o from eq_ix1 _,
    show idx_main_v53 (idx_main_v54 (Idealize.ShloMosaic.ix2 n o)) = Idealize.ShloMosaic.ix1 o from eq_ix1 _]
  show max (Ideal.div (_ - _) (Ideal.sqrt (_ + floor)) * _ + _) (Ideal.ofBits .f32 0x00000000#32) = _
  rw [zero_word]
  rfl

/-- The reference's second product. -/
theorem second_at (n : Fin 32768) (o : Fin 256) :
    (val_main_v58 (F := Ideal) x0 x2 x4 x5 x6 x7 x8 x9 (Idealize.ShloMosaic.ix2 n o) : EReal)
      = (inputOf x0 x2 x4 x5 x6 x7 x8 x9 x10 x11).secondRef (nearestOf x0 x2) n o := by
  rw [val_main_v58_apply]
  refine Finset.sum_congr rfl fun c _ => ?_
  rw [show lidx_main_v58 (Idealize.ShloMosaic.ix2 n o) c = Idealize.ShloMosaic.ix2 n c from eq_ix2 _, val_main_v57_apply,
    show idx_main_v57 (ridx_main_v58 (Idealize.ShloMosaic.ix2 n o) c) = Idealize.ShloMosaic.ix2 o c from eq_ix2 _,
    first_norm_at x0 x2 x4 x5 x6 x7 x8 x9 x10 x11]
  rfl

/-- The mean of a column of the second product. -/
theorem second_mean_at (o : Fin 256) :
    (val_main_v62 (F := Ideal) x0 x2 x4 x5 x6 x7 x8 x9 (Idealize.ShloMosaic.ix2 0 o) : EReal)
      = mean fun m => (inputOf x0 x2 x4 x5 x6 x7 x8 x9 x10 x11).secondRef (nearestOf x0 x2) m o := by
  rw [val_main_v62_apply, val_main_v60_apply, val_main_v59_apply, val_main_cst_10_apply,
    val_main_v61_apply, val_main_cst_11_apply]
  show Ideal.div (Ideal.ofBits .f32 0x00000000#32 + _) rowCount = _
  rw [zero_word, zero_add]
  refine congrArg (Ideal.div · rowCount) (Finset.sum_congr rfl fun m _ => ?_)
  rw [show idx_main_v59 (idx_main_v60 (Idealize.ShloMosaic.ix2 0 o)) m = Idealize.ShloMosaic.ix2 m o from eq_ix2 _]
  exact second_at x0 x2 x4 x5 x6 x7 x8 x9 x10 x11 m o

/-- Its mean squared deviation. -/
theorem second_variance_at (o : Fin 256) :
    (val_main_v69 (F := Ideal) x0 x2 x4 x5 x6 x7 x8 x9 (Idealize.ShloMosaic.ix2 0 o) : EReal)
      = variance fun m => (inputOf x0 x2 x4 x5 x6 x7 x8 x9 x10 x11).secondRef (nearestOf x0 x2) m o := by
  rw [val_main_v69_apply, val_main_v67_apply, val_main_v66_apply, val_main_cst_12_apply,
    val_main_v68_apply, val_main_cst_13_apply]
  show Ideal.div (Ideal.ofBits .f32 0x00000000#32 + _) rowCount = _
  rw [zero_word, zero_add]
  refine congrArg (Ideal.div · rowCount) (Finset.sum_congr rfl fun m _ => ?_)
  rw [show idx_main_v66 (idx_main_v67 (Idealize.ShloMosaic.ix2 0 o)) m = Idealize.ShloMosaic.ix2 m o from eq_ix2 _,
    val_main_v65_apply, val_main_v64_apply, val_main_v63_apply,
    show idx_main_v63 (Idealize.ShloMosaic.ix2 m o) = Idealize.ShloMosaic.ix2 0 o from eq_ix2 _,
    second_mean_at x0 x2 x4 x5 x6 x7 x8 x9 x10 x11, second_at x0 x2 x4 x5 x6 x7 x8 x9 x10 x11]
  rfl

/-- The second product, normalised, scaled, shifted and rectified. -/
theorem second_norm_at (n : Fin 32768) (o : Fin 256) :
    (val_main_v83 (F := Ideal) x0 x2 x4 x5 x6 x7 x8 x9 x10 x11 (Idealize.ShloMosaic.ix2 n o) : EReal)
      = normByDeviation (fun m => (inputOf x0 x2 x4 x5 x6 x7 x8 x9 x10 x11).secondRef (nearestOf x0 x2) m o) ((inputOf x0 x2 x4 x5 x6 x7 x8 x9 x10 x11).g2 o) ((inputOf x0 x2 x4 x5 x6 x7 x8 x9 x10 x11).b2 o) n := by
  rw [val_main_v83_apply, val_main_v82_apply, val_main_v79_apply, val_main_v76_apply, val_main_v71_apply,
    val_main_v70_apply, val_main_v75_apply, val_main_v78_apply, val_main_v77_apply, val_main_v81_apply,
    val_main_v80_apply, val_main_call2_v0_apply, val_main_call2_cst_apply,
    show idx_main_v70 (Idealize.ShloMosaic.ix2 n o) = Idealize.ShloMosaic.ix2 0 o from eq_ix2 _,
    show idx_main_v75 (Idealize.ShloMosaic.ix2 n o) = Idealize.ShloMosaic.ix2 0 o from eq_ix2 _,
    val_main_v74_apply, val_main_v73_apply, val_main_v72_apply, val_main_cst_14_apply,
    second_mean_at x0 x2 x4 x5 x6 x7 x8 x9 x10 x11, second_variance_at x0 x2 x4 x5 x6 x7 x8 x9 x10 x11,
    second_at x0 x2 x4 x5 x6 x7 x8 x9 x10 x11,
    show idx_main_v77 (idx_main_v78 (Idealize.ShloMosaic.ix2 n o)) = Idealize.ShloMosaic.ix1 o from eq_ix1 _,
    show idx_main_v80 (idx_main_v81 (Idealize.ShloMosaic.ix2 n o)) = Idealize.ShloMosaic.ix1 o from eq_ix1 _]
  show max (Ideal.div (_ - _) (Ideal.sqrt (_ + floor)) * _ + _) (Ideal.ofBits .f32 0x00000000#32) = _
  rw [zero_word]
  rfl

/-- The reference's result, in the reference's arrangement of the computation. -/
theorem reference_value :
    val_main_v83 (F := Ideal) x0 x2 x4 x5 x6 x7 x8 x9 x10 x11
      = fun i : S32768x256.Idx => (inputOf x0 x2 x4 x5 x6 x7 x8 x9 x10 x11).resultRef (nearestOf x0 x2) (i 0) (i 1) := by
  funext i
  rw [show i = Idealize.ShloMosaic.ix2 (i 0) (i 1) from eq_ix2 i]
  exact second_norm_at x0 x2 x4 x5 x6 x7 x8 x9 x10 x11 (i 0) (i 1)

end Cert.Proof
-- ==== Proof.Precondition.lean ====
/- The precondition read on the arguments: distances well separated, arguments finite. -/
module

public import proofs.«01_k».proof.Proof.Frames
public import proofs.«01_k».proof.Proof.RefLayers

@[expose] public section

set_option maxRecDepth 16384

noncomputable section

namespace Cert.Proof

open Idealize.ShloMosaic
open Cert.ReferenceIdeal.Read Cert.Pre_generic

/-- An extended real whose absolute value is below infinity is a real number. -/
theorem real_of_below (x : EReal) (h : max x (-x) < ⊤) : Real' x := by
  induction x using EReal.rec with
  | bot => exact absurd h (by simp)
  | coe r => exact ⟨r, rfl⟩
  | top => exact absurd h (by simp)

/-- An array of no dimensions has one entry. -/
instance oneIndex : Subsingleton S_.Idx := ⟨fun _ _ => funext fun a => a.elim0⟩

/-- One test that an array is finite, true at the end: every entry is a real number. -/
theorem finite_all {s : Shape} {axes : List (Fin s.rank)} (x : FVec Ideal s .f32) (dims : Fin S_.rank → Fin s.rank)
    (hb : S_.BroadcastsInDim s dims) (hr : s.ReducesTo axes S_) (hu : 0 < S_.numel) (j : S_.Idx)
    (e : Host.reduce IntOp.andi (cmpf .olt (Host.absf x) (broadcastInDim s dims hb (constant S_ .f32 0x7F800000#32)))
      (constantI S_ 1 1#1) hr hu j = 1#1) (i : s.Idx) : Real' (x i) := by
  have h : BitVec.ofBool (decide (max (x i : EReal) (-(x i : EReal)) < Ideal.ofBits .f32 0x7F800000#32)) = 1#1 :=
    Host.reduce_andi_all _ _ hr hu j e i
  rw [infinity_word] at h
  refine real_of_below (x i) ?_
  by_contra hn
  rw [decide_eq_false hn] at h
  exact absurd h (by decide)

variable (x0 : FVec Ideal ⟨2, ![32768, 3]⟩ .f32) (x1 : IVec ⟨1, ![4]⟩ 32) (x2 : FVec Ideal ⟨2, ![8192, 3]⟩ .f32)
  (x3 : IVec ⟨1, ![4]⟩ 32)
  (x4 : FVec Ideal ⟨2, ![32768, 128]⟩ .f32) (x5 : FVec Ideal ⟨2, ![8192, 256]⟩ .f32)
  (x6 : FVec Ideal ⟨2, ![256, 384]⟩ .f32) (x7 x8 : FVec Ideal ⟨1, ![256]⟩ .f32)
  (x9 : FVec Ideal ⟨2, ![256, 256]⟩ .f32) (x10 x11 : FVec Ideal ⟨1, ![256]⟩ .f32)

/-- The four greatest negated distances of every unknown point, in descending order. -/
def leading : FVec Ideal S4x8192x4 .f32 :=
  (Host.topK S4x8192x4 2 (FloatOps.cmpfTotal .gt) (val_main_v10 (F := Ideal) x0 x2)
    Facts.sliceFits_S4x8192x2048_S4x8192x4).1

/-- They are the negated distances at the first four positions in ascending order of distance. -/
theorem leading_at (n : Fin 32768) (i : Fin 4) :
    (leading x0 x2 (Idealize.ShloMosaic.ix3 (batchOf n) (placeOf n) i) : EReal)
      = -distOf x0 x2 n (ascending (distOf x0 x2 n) ⟨i.val, by omega⟩) :=
  top_value (n := 4) (by decide) (val_main_v10 (F := Ideal) x0 x2) (distOf x0 x2 n) (batchOf n) (placeOf n) i _
    (neg_dist x0 x2 n)

/-- The test that an array is finite. -/
def finiteTest {s : Shape} {axes : List (Fin s.rank)} (x : FVec Ideal s .f32) (dims : Fin S_.rank → Fin s.rank)
    (hb : S_.BroadcastsInDim s dims) (hr : s.ReducesTo axes S_) : IVec S_ 1 :=
  Host.reduce IntOp.andi (cmpf .olt (Host.absf x) (broadcastInDim s dims hb (constant S_ .f32 0x7F800000#32)))
    (constantI S_ 1 1#1) hr Facts.h_S_

/-- The test that each of the leading values is above the next. -/
def separatedTest : IVec S_ 1 :=
  Host.reduce IntOp.andi
    (cmpf .ogt (extractStridedSlice S4x8192x3 ![0, 0, 0] (leading x0 x2) Facts.slices_S4x8192x4_S4x8192x3_0_0_0)
      (extractStridedSlice S4x8192x3 ![0, 0, 1] (leading x0 x2) Facts.slices_S4x8192x4_S4x8192x3_0_0_1))
    (constantI S_ 1 1#1) Facts.reducesTo_S4x8192x3_S_d0_1_2 Facts.h_S_

/-- The precondition is the conjunction of its tests. -/
theorem precondition_eq (i : S_.Idx) :
    Cert.Pre_generic.fn (F := Ideal) x0 x1 x2 x3 x4 x5 x6 x7 x8 x9 x10 x11 i
      = IntOp.andi (separatedTest x0 x2 i)
          (IntOp.andi (IntOp.andi (IntOp.andi (IntOp.andi (IntOp.andi
            (finiteTest x4 ![] Facts.bcast_S_S32768x128 Facts.reducesTo_S32768x128_S_d0_1 i)
            (finiteTest x5 ![] Facts.bcast_S_S8192x256 Facts.reducesTo_S8192x256_S_d0_1 i))
            (finiteTest x6 ![] Facts.bcast_S_S256x384 Facts.reducesTo_S256x384_S_d0_1 i))
            (finiteTest x7 ![] Facts.bcast_S_S256 Facts.reducesTo_S256_S_d0 i))
            (finiteTest x8 ![] Facts.bcast_S_S256 Facts.reducesTo_S256_S_d0 i))
            (finiteTest x9 ![] Facts.bcast_S_S256x256 Facts.reducesTo_S256x256_S_d0_1 i)) := rfl

/-- Successive least distances of an unknown point increase strictly. -/
theorem separated (j : S_.Idx) (e : separatedTest x0 x2 j = 1#1) (n : Fin 32768) (i : Fin 3) :
    distOf x0 x2 n (ascending (distOf x0 x2 n) ⟨i.val, by omega⟩)
      < distOf x0 x2 n (ascending (distOf x0 x2 n) ⟨i.val + 1, by omega⟩) := by
  have h := Host.reduce_andi_all _ _ _ _ j e (Idealize.ShloMosaic.ix3 (batchOf n) (placeOf n) i)
  have h' : BitVec.ofBool (decide
      ((leading x0 x2 (Idealize.ShloMosaic.ix3 (batchOf n) (placeOf n) ⟨i.val + 1, by omega⟩) : EReal)
        < leading x0 x2 (Idealize.ShloMosaic.ix3 (batchOf n) (placeOf n) ⟨i.val, by omega⟩))) = 1#1 := by
    rw [← h]
    refine congrArg₂ (fun a b : EReal => BitVec.ofBool (decide (a < b)))
      (congrArg (leading x0 x2) (funext fun a => ?_)) (congrArg (leading x0 x2) (funext fun a => ?_))
    · match a with
      | ⟨0, _⟩ => exact Fin.ext (Nat.zero_add _).symm
      | ⟨1, _⟩ => exact Fin.ext (Nat.zero_add _).symm
      | ⟨2, _⟩ => exact Fin.ext (Nat.add_comm _ _)
    · match a with
      | ⟨0, _⟩ => exact Fin.ext (Nat.zero_add _).symm
      | ⟨1, _⟩ => exact Fin.ext (Nat.zero_add _).symm
      | ⟨2, _⟩ => exact Fin.ext (Nat.zero_add _).symm
  rw [leading_at, leading_at] at h'
  rw [← EReal.neg_lt_neg_iff]
  by_contra hn
  rw [decide_eq_false hn] at h'
  exact absurd h' (by decide)

/-- Under the precondition the arguments are finite and the three nearest points are what the reference selects. -/
theorem generic_of (h : Cert.Pre_generic.fn (F := Ideal) x0 x1 x2 x3 x4 x5 x6 x7 x8 x9 x10 x11 = fun _ => 1#1) :
    (inputOf x0 x2 x4 x5 x6 x7 x8 x9 x10 x11).Generic (nearestOf x0 x2) := by
  have e := (precondition_eq x0 x1 x2 x3 x4 x5 x6 x7 x8 x9 x10 x11 (fun a => a.elim0)).symm.trans (congrFun h _)
  obtain ⟨es, e⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e4, e5⟩ := IntOp.andi_eq_one.1 e
  exact {
    skip := fun n c => finite_all x4 _ _ _ _ _ e4 _
    feats := fun n c => finite_all x5 _ _ _ _ _ e5 _
    W1 := fun o c => finite_all x6 _ _ _ _ _ e6 _
    g1 := fun c => finite_all x7 _ _ _ _ _ e7 _
    b1 := fun c => finite_all x8 _ _ _ _ _ e8 _
    W2 := fun o c => finite_all x9 _ _ _ _ _ e9 _
    near := fun n => ascending_nearest (distOf x0 x2 n) (separated x0 x2 _ es n 0) (separated x0 x2 _ es n 1)
      (separated x0 x2 _ es n 2) }

end Cert.Proof
-- ==== Proof.Value.lean ====
/- The value claim: kernel and reference leave the same result. -/
module

public import proofs.«01_k».proof.Proof.KernelRun
public import proofs.«01_k».proof.Proof.Precondition
public import proofs.«01_k».proof.Proof.Gen.ReferenceIdeal.Run

@[expose] public section

set_option maxRecDepth 16384

noncomputable section

namespace Cert.Proof

open Idealize.ShloMosaic
open Idealize.ShloMosaic.StableHlo

/-- The reference's result on a device, from the memory it starts with. -/
def referenceResult (m : (ℓ : Loc Cert.ReferenceIdeal.nD Cert.ReferenceIdeal.τ Cert.ReferenceIdeal.sig) → Buf (Elt Ideal) ℓ)
    (c : Dev Cert.ReferenceIdeal.nD) : Cert.ReferenceIdeal.S32768x256.Idx → EReal :=
  Cert.ReferenceIdeal.Read.val_main_v83 (F := Ideal)
    (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg2))
    (m ((c.tc : Thread Cert.ReferenceIdeal.nD Cert.ReferenceIdeal.τ).loc Cert.ReferenceIdeal.main_arg4))
    (m ((c.tc : Thread Cert.ReferenceIdeal.nD Cert.ReferenceIdeal.τ).loc Cert.ReferenceIdeal.main_arg5))
    (m ((c.tc : Thread Cert.ReferenceIdeal.nD Cert.ReferenceIdeal.τ).loc Cert.ReferenceIdeal.main_arg6))
    (m ((c.tc : Thread Cert.ReferenceIdeal.nD Cert.ReferenceIdeal.τ).loc Cert.ReferenceIdeal.main_arg7))
    (m ((c.tc : Thread Cert.ReferenceIdeal.nD Cert.ReferenceIdeal.τ).loc Cert.ReferenceIdeal.main_arg8))
    (m ((c.tc : Thread Cert.ReferenceIdeal.nD Cert.ReferenceIdeal.τ).loc Cert.ReferenceIdeal.main_arg9))
    (m ((c.tc : Thread Cert.ReferenceIdeal.nD Cert.ReferenceIdeal.τ).loc Cert.ReferenceIdeal.main_arg10))
    (m ((c.tc : Thread Cert.ReferenceIdeal.nD Cert.ReferenceIdeal.τ).loc Cert.ReferenceIdeal.main_arg11))

/-- Under the precondition, on the same arguments, kernel and reference leave equal results and keep their arguments. -/
theorem algebraic : Cert.algebraic_KernelIdeal_ReferenceIdeal_pre_generic := by
  intro m g m' g' hpre harg
  refine ⟨fun c i => (kernelInput m c).result (i 0) (i 1), kernel_run m g, ?_⟩
  refine (θ_run Cert.ReferenceIdeal.defs _ _).mono (fun r h c => ⟨(h c).1.trans ?_, (h c).2⟩)
    (Cert.ReferenceIdeal.Value.run (F := Ideal) m' g')
  obtain ⟨a0, -, a2, -, a4, a5, a6, a7, a8, a9, a10, a11⟩ := harg c
  have hg : (kernelInput m c).Generic (nearestOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))) :=
    generic_of _ _ _ _ _ _ _ _ _ _ _ _ (hpre c)
  refine (Cert.ReferenceIdeal.Read.val_main_v83_eq (F := Ideal) (launchContents m' c)).trans ?_
  show referenceResult m' c = _
  unfold referenceResult
  rw [a0, a2, a4, a5, a6, a7, a8, a9, a10, a11]
  refine (reference_value _ _ _ _ _ _ _ _ _ _).trans (funext fun i => ?_)
  exact (Input.result_eq hg (i 0) (i 1)).symm

end Cert.Proof
-- ==== Proof.lean ====
module

public import proofs.«01_k».proof.Defs
public import proofs.«01_k».proof.Proof.Value

@[expose] public section

noncomputable section

namespace Cert.Proof

/-- All the claims, in the order the certificate states them. -/
theorem claim : Cert.Claim :=
  ⟨Cert.Kernel.Gen.facts, Cert.KernelIdeal.Gen.facts, Cert.ReferenceIdeal.Gen.facts, genericFacts,
    kernel_frame, ideal_frame, ideal_frame_generic, reference_frame, reference_frame_generic, preserves, algebraic⟩

end Cert.Proof

end
